-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_rows [hPre_finite_rows : Cert.Pre_finite_rows.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_rows.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_rows [hPre_finite_rows : Cert.Pre_finite_rows.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_rows.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Kernel6Ideal_pre_finite_rows [hKernel6Ideal : Cert.Kernel6Ideal.Facts] [hPre_finite_rows : Cert.Pre_finite_rows.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_rows m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Reference6Ideal_pre_finite_rows [hReference6Ideal : Cert.Reference6Ideal.Facts] [hPre_finite_rows : Cert.Pre_finite_rows.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_rows m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v54) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel6_Kernel6Ideal : Prop :=
  True

def algebraic_Kernel6Ideal_Reference6Ideal_pre_finite_rows [hKernel6Ideal : Cert.Kernel6Ideal.Facts] [hReference6Ideal : Cert.Reference6Ideal.Facts] [hPre_finite_rows : Cert.Pre_finite_rows.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_rows m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v34_0)) (v1 : (c : Dev Cert.Kernel6Ideal.nD) → Buf (Elt Ideal) ((c.tc : Thread Cert.Kernel6Ideal.nD Cert.Kernel6Ideal.τ).loc Cert.Kernel6Ideal.main_v34_1)) (v2 : (c : Dev Cert.Kernel6Ideal.nD) → Buf (Elt Ideal) ((c.tc : Thread Cert.Kernel6Ideal.nD Cert.Kernel6Ideal.τ).loc Cert.Kernel6Ideal.main_v34_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v34_0) = v0 c
          ∧ r.2.mem ((c.tc : Thread Cert.Kernel6Ideal.nD Cert.Kernel6Ideal.τ).loc Cert.Kernel6Ideal.main_v34_1) = v1 c
          ∧ r.2.mem ((c.tc : Thread Cert.Kernel6Ideal.nD Cert.Kernel6Ideal.τ).loc Cert.Kernel6Ideal.main_v34_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v77) = v0 c
          ∧ r.2.mem ((c.tc : Thread Cert.Reference6Ideal.nD Cert.Reference6Ideal.τ).loc Cert.Reference6Ideal.main_v79) = v1 c
          ∧ r.2.mem ((c.tc : Thread Cert.Reference6Ideal.nD Cert.Reference6Ideal.τ).loc Cert.Reference6Ideal.main_v81) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v7)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v7) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v27) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v84) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v6)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v6) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v22) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite_scores : Cert.Pre_finite_scores.Facts) (hPre_finite_rows : Cert.Pre_finite_rows.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite_rows (hKernel6Ideal := hKernel6Ideal) (hPre_finite_rows := hPre_finite_rows)
    ∧ quiescent_Reference6Ideal (hReference6Ideal := hReference6Ideal)
    ∧ quiescent_Reference6Ideal_pre_finite_rows (hReference6Ideal := hReference6Ideal) (hPre_finite_rows := hPre_finite_rows)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite_rows (hKernel6Ideal := hKernel6Ideal) (hReference6Ideal := hReference6Ideal) (hPre_finite_rows := hPre_finite_rows)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite_rows.lean ====
abbrev S4x8448x1024 : Shape := ⟨3, ![4, 8448, 1024]⟩
abbrev S1024x1536 : Shape := ⟨2, ![1024, 1536]⟩
abbrev S64 : Shape := ⟨1, ![64]⟩
abbrev S8192x32 : Shape := ⟨2, ![8192, 32]⟩
abbrev S_ : Shape := ⟨0, ![]⟩

class Facts : Prop where
  bitsLt_bf16_f32 : FTy.bits .bf16 < FTy.bits .f32
  bcast_S_S4x8448x1024 : S_.BroadcastsInDim S4x8448x1024 (![] : Fin 0 → Fin S4x8448x1024.rank)
  reducesTo_S4x8448x1024_S_d0_1_2 : S4x8448x1024.ReducesTo [0, 1, 2] S_
  h_S_ : 0 < S_.numel
  bcast_S_S1024x1536 : S_.BroadcastsInDim S1024x1536 (![] : Fin 0 → Fin S1024x1536.rank)
  reducesTo_S1024x1536_S_d0_1 : S1024x1536.ReducesTo [0, 1] S_

variable [Facts]

def fn {F : FTy → Type} [FloatOps F] (main_arg0 : FVec F S4x8448x1024 .bf16) (main_arg1 : FVec F S1024x1536 .f32) (main_arg2 : FVec F S64 .f32) (main_arg3 : FVec F S64 .f32) (main_arg4 : FVec F S8192x32 .f32) : IVec S_ 1 :=
  let main_v0 : FVec F S4x8448x1024 .f32 := (extf .f32 · bitsLt_bf16_f32) main_arg0
  let main_v1 : FVec F S4x8448x1024 .f32 := Host.absf main_v0
  let main_cst : FVec F S_ .f32 := constant S_ .f32 0x7F800000#32
  let main_v2 : FVec F S4x8448x1024 .f32 := broadcastInDim S4x8448x1024 ![] bcast_S_S4x8448x1024 main_cst
  let main_v3 : IVec S4x8448x1024 1 := cmpf .olt main_v1 main_v2
  let main_c : IVec S_ 1 := constantI S_ 1 1#1
  let main_v4 : IVec S_ 1 := (fun x v => Host.reduce IntOp.andi x v reducesTo_S4x8448x1024_S_d0_1_2 h_S_) main_v3 main_c
  let main_v5 : FVec F S1024x1536 .f32 := Host.absf main_arg1
  let main_cst_0 : FVec F S_ .f32 := constant S_ .f32 0x7F800000#32
  let main_v6 : FVec F S1024x1536 .f32 := broadcastInDim S1024x1536 ![] bcast_S_S1024x1536 main_cst_0
  let main_v7 : IVec S1024x1536 1 := cmpf .olt main_v5 main_v6
  let main_c_1 : IVec S_ 1 := constantI S_ 1 1#1
  let main_v8 : IVec S_ 1 := (fun x v => Host.reduce IntOp.andi x v reducesTo_S1024x1536_S_d0_1 h_S_) main_v7 main_c_1
  let main_v9 : IVec S_ 1 := andi main_v4 main_v8
  main_v9
-- ==== Pre_finite_scores.lean ====
abbrev S4x8448x1024 : Shape := ⟨3, ![4, 8448, 1024]⟩
abbrev S4x4x8448x64 : Shape := ⟨4, ![4, 4, 8448, 64]⟩
abbrev S_ : Shape := ⟨0, ![]⟩

class Facts : Prop where
  bitsLt_bf16_f32 : FTy.bits .bf16 < FTy.bits .f32
  bcast_S_S4x8448x1024 : S_.BroadcastsInDim S4x8448x1024 (![] : Fin 0 → Fin S4x8448x1024.rank)
  reducesTo_S4x8448x1024_S_d0_1_2 : S4x8448x1024.ReducesTo [0, 1, 2] S_
  h_S_ : 0 < S_.numel
  bcast_S_S4x4x8448x64 : S_.BroadcastsInDim S4x4x8448x64 (![] : Fin 0 → Fin S4x4x8448x64.rank)
  reducesTo_S4x4x8448x64_S_d0_1_2_3 : S4x4x8448x64.ReducesTo [0, 1, 2, 3] S_

variable [Facts]

def fn {F : FTy → Type} [FloatOps F] (main_arg0 : FVec F S4x8448x1024 .bf16) (main_arg1 : FVec F S4x4x8448x64 .bf16) (main_arg2 : FVec F S4x4x8448x64 .bf16) : IVec S_ 1 :=
  let main_v0 : FVec F S4x8448x1024 .f32 := (extf .f32 · bitsLt_bf16_f32) main_arg0
  let main_v1 : FVec F S4x8448x1024 .f32 := Host.absf main_v0
  let main_cst : FVec F S_ .f32 := constant S_ .f32 0x7F800000#32
  let main_v2 : FVec F S4x8448x1024 .f32 := broadcastInDim S4x8448x1024 ![] bcast_S_S4x8448x1024 main_cst
  let main_v3 : IVec S4x8448x1024 1 := cmpf .olt main_v1 main_v2
  let main_c : IVec S_ 1 := constantI S_ 1 1#1
  let main_v4 : IVec S_ 1 := (fun x v => Host.reduce IntOp.andi x v reducesTo_S4x8448x1024_S_d0_1_2 h_S_) main_v3 main_c
  let main_v5 : FVec F S4x4x8448x64 .f32 := (extf .f32 · bitsLt_bf16_f32) main_arg1
  let main_v6 : FVec F S4x4x8448x64 .f32 := Host.absf main_v5
  let main_cst_0 : FVec F S_ .f32 := constant S_ .f32 0x7F800000#32
  let main_v7 : FVec F S4x4x8448x64 .f32 := broadcastInDim S4x4x8448x64 ![] bcast_S_S4x4x8448x64 main_cst_0
  let main_v8 : IVec S4x4x8448x64 1 := cmpf .olt main_v6 main_v7
  let main_c_1 : IVec S_ 1 := constantI S_ 1 1#1
  let main_v9 : IVec S_ 1 := (fun x v => Host.reduce IntOp.andi x v reducesTo_S4x4x8448x64_S_d0_1_2_3 h_S_) main_v8 main_c_1
  let main_v10 : IVec S_ 1 := andi main_v4 main_v9
  main_v10
-- ==== Kernel.lean ====
abbrev S4x8448x1024 : Shape := ⟨3, ![4, 8448, 1024]⟩
abbrev S4x4x8448x64 : Shape := ⟨4, ![4, 4, 8448, 64]⟩
abbrev S4x8192x1024 : Shape := ⟨3, ![4, 8192, 1024]⟩
abbrev S1x128x256 : Shape := ⟨3, ![1, 128, 256]⟩
abbrev S1x1x8448x64 : Shape := ⟨4, ![1, 1, 8448, 64]⟩
abbrev S128x256 : Shape := ⟨2, ![128, 256]⟩
abbrev S128x64 : Shape := ⟨2, ![128, 64]⟩
abbrev S512x64 : Shape := ⟨2, ![512, 64]⟩
abbrev S512x1 : Shape := ⟨2, ![512, 1]⟩
abbrev S1x1x768x64 : Shape := ⟨4, ![1, 1, 768, 64]⟩
abbrev S768x64 : Shape := ⟨2, ![768, 64]⟩
abbrev S512x768 : Shape := ⟨2, ![512, 768]⟩
abbrev S512 : Shape := ⟨1, ![512]⟩
abbrev S1x128x64 : Shape := ⟨3, ![1, 128, 64]⟩

abbrev nBuf : Space → Nat
  | .hbm => 4
  | .vmem => 8
  | .smem => 0
  | _ => 0

abbrev bufTy : (tb : Table) → Fin (tcTables nBuf tb) → BufTy
  | .hbm, ⟨0, _⟩ => ⟨S4x8448x1024, .bf16⟩
  | .hbm, ⟨1, _⟩ => ⟨S4x4x8448x64, .bf16⟩
  | .hbm, ⟨2, _⟩ => ⟨S4x4x8448x64, .bf16⟩
  | .hbm, ⟨3, _⟩ => ⟨S4x8192x1024, .bf16⟩
  | .local _ .vmem, ⟨0, _⟩ => ⟨S1x128x256, .bf16⟩
  | .local _ .vmem, ⟨1, _⟩ => ⟨S1x128x256, .bf16⟩
  | .local _ .vmem, ⟨2, _⟩ => ⟨S1x1x8448x64, .bf16⟩
  | .local _ .vmem, ⟨3, _⟩ => ⟨S1x1x8448x64, .bf16⟩
  | .local _ .vmem, ⟨4, _⟩ => ⟨S1x1x8448x64, .bf16⟩
  | .local _ .vmem, ⟨5, _⟩ => ⟨S1x1x8448x64, .bf16⟩
  | .local _ .vmem, ⟨6, _⟩ => ⟨S1x128x256, .bf16⟩
  | .local _ .vmem, ⟨7, _⟩ => ⟨S1x128x256, .bf16⟩
  | _, _ => ⟨S4x8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 64], ![false, false, false]⟩

@[reducible] def k0_t1_loop : Scf.Loop 32 :=
  let c0_i32 : BitVec 32 := 0#32
  let c11_i32 : BitVec 32 := 11#32
  let v10 : BitVec 32 := Scalar.addi c0_i32 c11_i32
  let c1_i32 : BitVec 32 := 1#32
  ⟨c0_i32, v10, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c768_i32 : BitVec 32 := 768#32
  let v34 : BitVec 32 := Scalar.muli arg7 c768_i32
  v34
def k0_off1 (k0_t1 : Fin k0_t1_loop.trips) : Fin 4 → Nat :=
  let c0_14 : Index := 0#32
  let c0_15 : Index := 0#32
  let c0_i32 : BitVec 32 := 0#32
  let c1_i32 : BitVec 32 := 1#32
  let arg7 : BitVec 32 := Scf.iv c0_i32 c1_i32 k0_t1
  let c768_i32 : BitVec 32 := 768#32
  let v34 : BitVec 32 := Scalar.muli arg7 c768_i32
  let v35 : BitVec 32 := v34
  let v36 : Index := Scalar.indexCast v35
  let c0_16 : Index := 0#32
  ![0, 0, v36.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg2 c2_i32
  let c0_i32 : BitVec 32 := 0#32
  ![arg0.toNat, v0.toNat, arg1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x8448x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x8448x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S4x8448x1024 : Shape := ⟨3, ![4, 8448, 1024]⟩
abbrev S4x4x8448x64 : Shape := ⟨4, ![4, 4, 8448, 64]⟩
abbrev S4x8192x1024 : Shape := ⟨3, ![4, 8192, 1024]⟩
abbrev S4x8192x4x4x64 : Shape := ⟨5, ![4, 8192, 4, 4, 64]⟩
abbrev S4x4x8448x8192x4 : Shape := ⟨5, ![4, 4, 8448, 8192, 4]⟩
abbrev S4x4x4x8192x8448 : Shape := ⟨5, ![4, 4, 4, 8192, 8448]⟩
abbrev S_ : Shape := ⟨0, ![]⟩
abbrev S4x4x4x8192 : Shape := ⟨4, ![4, 4, 4, 8192]⟩
abbrev S4x4x4x8192x1 : Shape := ⟨5, ![4, 4, 4, 8192, 1]⟩
abbrev S4x4x64x4x8192 : Shape := ⟨5, ![4, 4, 64, 4, 8192]⟩

abbrev nBuf : Space → Nat
  | .hbm => 28
  | .vmem => 0
  | .smem => 0
  | _ => 0

abbrev bufTy : (tb : Table) → Fin (tcTables nBuf tb) → BufTy
  | .hbm, ⟨0, _⟩ => ⟨S4x8448x1024, .bf16⟩
  | .hbm, ⟨1, _⟩ => ⟨S4x4x8448x64, .bf16⟩
  | .hbm, ⟨2, _⟩ => ⟨S4x4x8448x64, .bf16⟩
  | .hbm, ⟨3, _⟩ => ⟨S4x8192x1024, .bf16⟩
  | .hbm, ⟨4, _⟩ => ⟨S4x8192x1024, .f32⟩
  | .hbm, ⟨5, _⟩ => ⟨S4x8192x4x4x64, .f32⟩
  | .hbm, ⟨6, _⟩ => ⟨S4x4x8448x64, .f32⟩
  | .hbm, ⟨7, _⟩ => ⟨S4x4x8448x64, .f32⟩
  | .hbm, ⟨8, _⟩ => ⟨S4x4x8448x8192x4, .f32⟩
  | .hbm, ⟨9, _⟩ => ⟨S4x4x4x8192x8448, .f32⟩
  | .hbm, ⟨10, _⟩ => ⟨S_, .f32⟩
  | .hbm, ⟨11, _⟩ => ⟨S4x4x4x8192, .f32⟩
  | .hbm, ⟨12, _⟩ => ⟨S_, .f32⟩
  | .hbm, ⟨13, _⟩ => ⟨S4x4x4x8192, .f32⟩
  | .hbm, ⟨14, _⟩ => ⟨S4x4x4x8192, .f32⟩
  | .hbm, ⟨15, _⟩ => ⟨S4x4x4x8192x1, .f32⟩
  | .hbm, ⟨16, _⟩ => ⟨S4x4x4x8192x8448, .f32⟩
  | .hbm, ⟨17, _⟩ => ⟨S4x4x4x8192x8448, .f32⟩
  | .hbm, ⟨18, _⟩ => ⟨S4x4x4x8192x8448, .f32⟩
  | .hbm, ⟨19, _⟩ => ⟨S_, .f32⟩
  | .hbm, ⟨20, _⟩ => ⟨S4x4x4x8192, .f32⟩
  | .hbm, ⟨21, _⟩ => ⟨S4x4x4x8192x1, .f32⟩
  | .hbm, ⟨22, _⟩ => ⟨S4x4x4x8192x8448, .f32⟩
  | .hbm, ⟨23, _⟩ => ⟨S4x4x4x8192x8448, .f32⟩
  | .hbm, ⟨24, _⟩ => ⟨S4x4x64x4x8192, .f32⟩
  | .hbm, ⟨25, _⟩ => ⟨S4x8192x4x4x64, .f32⟩
  | .hbm, ⟨26, _⟩ => ⟨S4x8192x1024, .f32⟩
  | .hbm, ⟨27, _⟩ => ⟨S4x8192x1024, .bf16⟩
  | _, _ => ⟨S4x8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]
-- ==== Kernel2.lean ====
abbrev S4x8448x1024 : Shape := ⟨3, ![4, 8448, 1024]⟩
abbrev S1x1024x7232 : Shape := ⟨3, ![1, 1024, 7232]⟩
abbrev S1024x7232 : Shape := ⟨2, ![1024, 7232]⟩
abbrev S1024x4096 : Shape := ⟨2, ![1024, 4096]⟩
abbrev S33792x1024 : Shape := ⟨2, ![33792, 1024]⟩
abbrev S33792x4096 : Shape := ⟨2, ![33792, 4096]⟩
abbrev S512x1024 : Shape := ⟨2, ![512, 1024]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S4x8448x1024, .bf16⟩
  | .hbm, ⟨1, _⟩ => ⟨S1x1024x7232, .f32⟩
  | .hbm, ⟨2, _⟩ => ⟨S1024x7232, .f32⟩
  | .hbm, ⟨3, _⟩ => ⟨S1024x4096, .f32⟩
  | .hbm, ⟨4, _⟩ => ⟨S1024x4096, .bf16⟩
  | .hbm, ⟨5, _⟩ => ⟨S33792x1024, .bf16⟩
  | .hbm, ⟨6, _⟩ => ⟨S33792x4096, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | _, _ => ⟨S4x8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 66], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S4x8448x1024 : Shape := ⟨3, ![4, 8448, 1024]⟩
abbrev S1x1024x7232 : Shape := ⟨3, ![1, 1024, 7232]⟩
abbrev S33792x1024 : Shape := ⟨2, ![33792, 1024]⟩
abbrev S1024x7232 : Shape := ⟨2, ![1024, 7232]⟩
abbrev S33792x7232 : Shape := ⟨2, ![33792, 7232]⟩
abbrev S33792x4096 : Shape := ⟨2, ![33792, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4x8448x1024, .bf16⟩
  | .hbm, ⟨1, _⟩ => ⟨S1x1024x7232, .f32⟩
  | .hbm, ⟨2, _⟩ => ⟨S33792x1024, .bf16⟩
  | .hbm, ⟨3, _⟩ => ⟨S33792x1024, .f32⟩
  | .hbm, ⟨4, _⟩ => ⟨S1024x7232, .f32⟩
  | .hbm, ⟨5, _⟩ => ⟨S33792x7232, .f32⟩
  | .hbm, ⟨6, _⟩ => ⟨S33792x4096, .f32⟩
  | .hbm, ⟨7, _⟩ => ⟨S33792x4096, .bf16⟩
  | _, _ => ⟨S4x8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel3.lean ====
abbrev S4x8448x1024 : Shape := ⟨3, ![4, 8448, 1024]⟩
abbrev S1x1024x7232 : Shape := ⟨3, ![1, 1024, 7232]⟩
abbrev S1024x7232 : Shape := ⟨2, ![1024, 7232]⟩
abbrev S1024x3072 : Shape := ⟨2, ![1024, 3072]⟩
abbrev S33792x1024 : Shape := ⟨2, ![33792, 1024]⟩
abbrev S33792x3072 : Shape := ⟨2, ![33792, 3072]⟩
abbrev S512x1024 : Shape := ⟨2, ![512, 1024]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S4x8448x1024, .bf16⟩
  | .hbm, ⟨1, _⟩ => ⟨S1x1024x7232, .f32⟩
  | .hbm, ⟨2, _⟩ => ⟨S1024x7232, .f32⟩
  | .hbm, ⟨3, _⟩ => ⟨S1024x3072, .f32⟩
  | .hbm, ⟨4, _⟩ => ⟨S1024x3072, .bf16⟩
  | .hbm, ⟨5, _⟩ => ⟨S33792x1024, .bf16⟩
  | .hbm, ⟨6, _⟩ => ⟨S33792x3072, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | _, _ => ⟨S4x8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 66], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S4x8448x1024 : Shape := ⟨3, ![4, 8448, 1024]⟩
abbrev S1x1024x7232 : Shape := ⟨3, ![1, 1024, 7232]⟩
abbrev S33792x1024 : Shape := ⟨2, ![33792, 1024]⟩
abbrev S1024x7232 : Shape := ⟨2, ![1024, 7232]⟩
abbrev S33792x7232 : Shape := ⟨2, ![33792, 7232]⟩
abbrev S33792x3072 : Shape := ⟨2, ![33792, 3072]⟩

abbrev nBuf : Space → Nat
  | .hbm => 7
  | .vmem => 0
  | .smem => 0
  | _ => 0

abbrev bufTy : (tb : Table) → Fin (tcTables nBuf tb) → BufTy
  | .hbm, ⟨0, _⟩ => ⟨S4x8448x1024, .bf16⟩
  | .hbm, ⟨1, _⟩ => ⟨S1x1024x7232, .f32⟩
  | .hbm, ⟨2, _⟩ => ⟨S33792x1024, .bf16⟩
  | .hbm, ⟨3, _⟩ => ⟨S33792x1024, .f32⟩
  | .hbm, ⟨4, _⟩ => ⟨S1024x7232, .f32⟩
  | .hbm, ⟨5, _⟩ => ⟨S33792x7232, .f32⟩
  | .hbm, ⟨6, _⟩ => ⟨S33792x3072, .f32⟩
  | _, _ => ⟨S4x8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel4.lean ====
abbrev S4x8192x1024 : Shape := ⟨3, ![4, 8192, 1024]⟩
abbrev S1024x1024 : Shape := ⟨2, ![1024, 1024]⟩
abbrev S4x8448x1024 : Shape := ⟨3, ![4, 8448, 1024]⟩
abbrev S8x6x1024 : Shape := ⟨3, ![8, 6, 1024]⟩
abbrev S1x256x1024 : Shape := ⟨3, ![1, 256, 1024]⟩
abbrev S1x6x1024 : Shape := ⟨3, ![1, 6, 1024]⟩
abbrev S256x1024 : Shape := ⟨2, ![256, 1024]⟩
abbrev S1x1x1024 : Shape := ⟨3, ![1, 1, 1024]⟩
abbrev S1x1024 : Shape := ⟨2, ![1, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4x8192x1024, .bf16⟩
  | .hbm, ⟨1, _⟩ => ⟨S1024x1024, .f32⟩
  | .hbm, ⟨2, _⟩ => ⟨S4x8448x1024, .f32⟩
  | .hbm, ⟨3, _⟩ => ⟨S8x6x1024, .f32⟩
  | .hbm, ⟨4, _⟩ => ⟨S1024x1024, .bf16⟩
  | .hbm, ⟨5, _⟩ => ⟨S4x8192x1024, .f32⟩
  | .local _ .vmem, ⟨0, _⟩ => ⟨S1x256x1024, .bf16⟩
  | .local _ .vmem, ⟨1, _⟩ => ⟨S1x256x1024, .bf16⟩
  | .local _ .vmem, ⟨2, _⟩ => ⟨S1024x1024, .bf16⟩
  | .local _ .vmem, ⟨3, _⟩ => ⟨S1x256x1024, .f32⟩
  | .local _ .vmem, ⟨4, _⟩ => ⟨S1x256x1024, .f32⟩
  | .local _ .vmem, ⟨5, _⟩ => ⟨S1x6x1024, .f32⟩
  | .local _ .vmem, ⟨6, _⟩ => ⟨S1x6x1024, .f32⟩
  | .local _ .vmem, ⟨7, _⟩ => ⟨S1x256x1024, .f32⟩
  | .local _ .vmem, ⟨8, _⟩ => ⟨S1x256x1024, .f32⟩
  | _, _ => ⟨S4x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S4x8192x1024 : Shape := ⟨3, ![4, 8192, 1024]⟩
abbrev S1024x1024 : Shape := ⟨2, ![1024, 1024]⟩
abbrev S4x8448x1024 : Shape := ⟨3, ![4, 8448, 1024]⟩
abbrev S8x6x1024 : Shape := ⟨3, ![8, 6, 1024]⟩
abbrev S4x1x1024 : Shape := ⟨3, ![4, 1, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4x8192x1024, .bf16⟩
  | .hbm, ⟨1, _⟩ => ⟨S1024x1024, .f32⟩
  | .hbm, ⟨2, _⟩ => ⟨S4x8448x1024, .f32⟩
  | .hbm, ⟨3, _⟩ => ⟨S8x6x1024, .f32⟩
  | .hbm, ⟨4, _⟩ => ⟨S4x8192x1024, .f32⟩
  | .hbm, ⟨5, _⟩ => ⟨S4x1x1024, .f32⟩
  | .hbm, ⟨6, _⟩ => ⟨S4x8192x1024, .f32⟩
  | .hbm, ⟨7, _⟩ => ⟨S4x8192x1024, .f32⟩
  | .hbm, ⟨8, _⟩ => ⟨S4x8192x1024, .f32⟩
  | .hbm, ⟨9, _⟩ => ⟨S4x8192x1024, .f32⟩
  | .hbm, ⟨10, _⟩ => ⟨S4x8192x1024, .f32⟩
  | _, _ => ⟨S4x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel5.lean ====
abbrev S4x8448x2048 : Shape := ⟨3, ![4, 8448, 2048]⟩
abbrev S4x8448x4096 : Shape := ⟨3, ![4, 8448, 4096]⟩
abbrev S4x8448x3072 : Shape := ⟨3, ![4, 8448, 3072]⟩
abbrev S2x32 : Shape := ⟨2, ![2, 32]⟩
abbrev S2048 : Shape := ⟨1, ![2048]⟩
abbrev S2048x1024 : Shape := ⟨2, ![2048, 1024]⟩
abbrev S4x8448x1024 : Shape := ⟨3, ![4, 8448, 1024]⟩
abbrev S8x6x1024 : Shape := ⟨3, ![8, 6, 1024]⟩
abbrev S2x32x64 : Shape := ⟨3, ![2, 32, 64]⟩
abbrev S2x2048 : Shape := ⟨2, ![2, 2048]⟩
abbrev S1x2048 : Shape := ⟨2, ![1, 2048]⟩
abbrev S1x256x2048 : Shape := ⟨3, ![1, 256, 2048]⟩
abbrev S1x256x1024 : Shape := ⟨3, ![1, 256, 1024]⟩
abbrev S1x6x1024 : Shape := ⟨3, ![1, 6, 1024]⟩
abbrev S256x2048 : Shape := ⟨2, ![256, 2048]⟩
abbrev S256x512 : Shape := ⟨2, ![256, 512]⟩
abbrev S1x512 : Shape := ⟨2, ![1, 512]⟩
abbrev S256 : Shape := ⟨1, ![256]⟩
abbrev S256x1 : Shape := ⟨2, ![256, 1]⟩
abbrev S256x1024 : Shape := ⟨2, ![256, 1024]⟩
abbrev S1x1x1024 : Shape := ⟨3, ![1, 1, 1024]⟩
abbrev S1x1024 : Shape := ⟨2, ![1, 1024]⟩

abbrev nBuf : Space → Nat
  | .hbm => 14
  | .vmem => 19
  | .smem => 0
  | _ => 0

abbrev bufTy : (tb : Table) → Fin (tcTables nBuf tb) → BufTy
  | .hbm, ⟨0, _⟩ => ⟨S4x8448x2048, .bf16⟩
  | .hbm, ⟨1, _⟩ => ⟨S4x8448x2048, .bf16⟩
  | .hbm, ⟨2, _⟩ => ⟨S4x8448x4096, .bf16⟩
  | .hbm, ⟨3, _⟩ => ⟨S4x8448x3072, .bf16⟩
  | .hbm, ⟨4, _⟩ => ⟨S2x32, .f32⟩
  | .hbm, ⟨5, _⟩ => ⟨S2048, .f32⟩
  | .hbm, ⟨6, _⟩ => ⟨S2048x1024, .f32⟩
  | .hbm, ⟨7, _⟩ => ⟨S4x8448x1024, .f32⟩
  | .hbm, ⟨8, _⟩ => ⟨S8x6x1024, .f32⟩
  | .hbm, ⟨9, _⟩ => ⟨S2x32x64, .f32⟩
  | .hbm, ⟨10, _⟩ => ⟨S2x2048, .f32⟩
  | .hbm, ⟨11, _⟩ => ⟨S2048x1024, .bf16⟩
  | .hbm, ⟨12, _⟩ => ⟨S1x2048, .f32⟩
  | .hbm, ⟨13, _⟩ => ⟨S4x8448x1024, .f32⟩
  | .local _ .vmem, ⟨0, _⟩ => ⟨S1x256x2048, .bf16⟩
  | .local _ .vmem, ⟨1, _⟩ => ⟨S1x256x2048, .bf16⟩
  | .local _ .vmem, ⟨2, _⟩ => ⟨S1x256x2048, .bf16⟩
  | .local _ .vmem, ⟨3, _⟩ => ⟨S1x256x2048, .bf16⟩
  | .local _ .vmem, ⟨4, _⟩ => ⟨S1x256x2048, .bf16⟩
  | .local _ .vmem, ⟨5, _⟩ => ⟨S1x256x2048, .bf16⟩
  | .local _ .vmem, ⟨6, _⟩ => ⟨S1x256x2048, .bf16⟩
  | .local _ .vmem, ⟨7, _⟩ => ⟨S1x256x2048, .bf16⟩
  | .local _ .vmem, ⟨8, _⟩ => ⟨S1x256x2048, .bf16⟩
  | .local _ .vmem, ⟨9, _⟩ => ⟨S1x256x2048, .bf16⟩
  | .local _ .vmem, ⟨10, _⟩ => ⟨S2x2048, .f32⟩
  | .local _ .vmem, ⟨11, _⟩ => ⟨S1x2048, .f32⟩
  | .local _ .vmem, ⟨12, _⟩ => ⟨S2048x1024, .bf16⟩
  | .local _ .vmem, ⟨13, _⟩ => ⟨S1x256x1024, .f32⟩
  | .local _ .vmem, ⟨14, _⟩ => ⟨S1x256x1024, .f32⟩
  | .local _ .vmem, ⟨15, _⟩ => ⟨S1x6x1024, .f32⟩
  | .local _ .vmem, ⟨16, _⟩ => ⟨S1x6x1024, .f32⟩
  | .local _ .vmem, ⟨17, _⟩ => ⟨S1x256x1024, .f32⟩
  | .local _ .vmem, ⟨18, _⟩ => ⟨S1x256x1024, .f32⟩
  | _, _ => ⟨S4x8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![4, 33], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c4_i32 : BitVec 32 := 4#32
  let v1 : BitVec 32 := Scalar.select v0 c4_i32 arg0
  let c0_i32 : BitVec 32 := 0#32
  let c0_i32_0 : BitVec 32 := 0#32
  let c0_i32_1 : BitVec 32 := 0#32
  ![v1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S2x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x6x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference5Ideal.lean ====
abbrev S4x8448x2048 : Shape := ⟨3, ![4, 8448, 2048]⟩
abbrev S4x8448x4096 : Shape := ⟨3, ![4, 8448, 4096]⟩
abbrev S4x8448x3072 : Shape := ⟨3, ![4, 8448, 3072]⟩
abbrev S2x32 : Shape := ⟨2, ![2, 32]⟩
abbrev S2048 : Shape := ⟨1, ![2048]⟩
abbrev S2048x1024 : Shape := ⟨2, ![2048, 1024]⟩
abbrev S4x8448x1024 : Shape := ⟨3, ![4, 8448, 1024]⟩
abbrev S8x6x1024 : Shape := ⟨3, ![8, 6, 1024]⟩
abbrev S4x8448x32x64 : Shape := ⟨4, ![4, 8448, 32, 64]⟩
abbrev S1x32 : Shape := ⟨2, ![1, 32]⟩
abbrev S32 : Shape := ⟨1, ![32]⟩
abbrev S32x1 : Shape := ⟨2, ![32, 1]⟩
abbrev S1x1x32x1 : Shape := ⟨4, ![1, 1, 32, 1]⟩
abbrev S_ : Shape := ⟨0, ![]⟩
abbrev S4x8448x4x512 : Shape := ⟨4, ![4, 8448, 4, 512]⟩
abbrev S4x8448x4 : Shape := ⟨3, ![4, 8448, 4]⟩
abbrev S4x8448x4x1 : Shape := ⟨4, ![4, 8448, 4, 1]⟩
abbrev S4x512 : Shape := ⟨2, ![4, 512]⟩
abbrev S1x1x4x512 : Shape := ⟨4, ![1, 1, 4, 512]⟩
abbrev S1x1x1024 : Shape := ⟨3, ![1, 1, 1024]⟩
abbrev S4x256x1024 : Shape := ⟨3, ![4, 256, 1024]⟩
abbrev S4x1x1024 : Shape := ⟨3, ![4, 1, 1024]⟩
abbrev S4x8192x1024 : Shape := ⟨3, ![4, 8192, 1024]⟩

abbrev nBuf : Space → Nat
  | .hbm => 83
  | .vmem => 0
  | .smem => 0
  | _ => 0

abbrev bufTy : (tb : Table) → Fin (tcTables nBuf tb) → BufTy
  | .hbm, ⟨0, _⟩ => ⟨S4x8448x2048, .bf16⟩
  | .hbm, ⟨1, _⟩ => ⟨S4x8448x2048, .bf16⟩
  | .hbm, ⟨2, _⟩ => ⟨S4x8448x4096, .bf16⟩
  | .hbm, ⟨3, _⟩ => ⟨S4x8448x3072, .bf16⟩
  | .hbm, ⟨4, _⟩ => ⟨S2x32, .f32⟩
  | .hbm, ⟨5, _⟩ => ⟨S2048, .f32⟩
  | .hbm, ⟨6, _⟩ => ⟨S2048x1024, .f32⟩
  | .hbm, ⟨7, _⟩ => ⟨S4x8448x1024, .f32⟩
  | .hbm, ⟨8, _⟩ => ⟨S8x6x1024, .f32⟩
  | .hbm, ⟨9, _⟩ => ⟨S4x8448x2048, .bf16⟩
  | .hbm, ⟨10, _⟩ => ⟨S4x8448x2048, .f32⟩
  | .hbm, ⟨11, _⟩ => ⟨S4x8448x32x64, .f32⟩
  | .hbm, ⟨12, _⟩ => ⟨S4x8448x2048, .f32⟩
  | .hbm, ⟨13, _⟩ => ⟨S4x8448x32x64, .f32⟩
  | .hbm, ⟨14, _⟩ => ⟨S1x32, .f32⟩
  | .hbm, ⟨15, _⟩ => ⟨S32, .f32⟩
  | .hbm, ⟨16, _⟩ => ⟨S32x1, .f32⟩
  | .hbm, ⟨17, _⟩ => ⟨S1x1x32x1, .f32⟩
  | .hbm, ⟨18, _⟩ => ⟨S4x8448x32x64, .f32⟩
  | .hbm, ⟨19, _⟩ => ⟨S4x8448x32x64, .f32⟩
  | .hbm, ⟨20, _⟩ => ⟨S4x8448x32x64, .f32⟩
  | .hbm, ⟨21, _⟩ => ⟨S4x8448x2048, .f32⟩
  | .hbm, ⟨22, _⟩ => ⟨S4x8448x2048, .f32⟩
  | .hbm, ⟨23, _⟩ => ⟨S4x8448x32x64, .f32⟩
  | .hbm, ⟨24, _⟩ => ⟨S1x32, .f32⟩
  | .hbm, ⟨25, _⟩ => ⟨S32, .f32⟩
  | .hbm, ⟨26, _⟩ => ⟨S32x1, .f32⟩
  | .hbm, ⟨27, _⟩ => ⟨S1x1x32x1, .f32⟩
  | .hbm, ⟨28, _⟩ => ⟨S4x8448x32x64, .f32⟩
  | .hbm, ⟨29, _⟩ => ⟨S4x8448x32x64, .f32⟩
  | .hbm, ⟨30, _⟩ => ⟨S4x8448x32x64, .f32⟩
  | .hbm, ⟨31, _⟩ => ⟨S4x8448x2048, .f32⟩
  | .hbm, ⟨32, _⟩ => ⟨S4x8448x4096, .f32⟩
  | .hbm, ⟨33, _⟩ => ⟨S4x8448x2048, .f32⟩
  | .hbm, ⟨34, _⟩ => ⟨S4x8448x2048, .f32⟩
  | .hbm, ⟨35, _⟩ => ⟨S4x8448x2048, .f32⟩
  | .hbm, ⟨36, _⟩ => ⟨S_, .f32⟩
  | .hbm, ⟨37, _⟩ => ⟨S4x8448x2048, .f32⟩
  | .hbm, ⟨38, _⟩ => ⟨S4x8448x2048, .f32⟩
  | .hbm, ⟨39, _⟩ => ⟨S_, .f32⟩
  | .hbm, ⟨40, _⟩ => ⟨S4x8448x2048, .f32⟩
  | .hbm, ⟨41, _⟩ => ⟨S4x8448x2048, .f32⟩
  | .hbm, ⟨42, _⟩ => ⟨S4x8448x2048, .f32⟩
  | .hbm, ⟨43, _⟩ => ⟨S4x8448x2048, .f32⟩
  | .hbm, ⟨44, _⟩ => ⟨S4x8448x2048, .f32⟩
  | .hbm, ⟨45, _⟩ => ⟨S4x8448x2048, .f32⟩
  | .hbm, ⟨46, _⟩ => ⟨S4x8448x2048, .f32⟩
  | .hbm, ⟨47, _⟩ => ⟨S_, .f32⟩
  | .hbm, ⟨48, _⟩ => ⟨S4x8448x2048, .f32⟩
  | .hbm, ⟨49, _⟩ => ⟨S4x8448x2048, .f32⟩
  | .hbm, ⟨50, _⟩ => ⟨S_, .f32⟩
  | .hbm, ⟨51, _⟩ => ⟨S4x8448x2048, .f32⟩
  | .hbm, ⟨52, _⟩ => ⟨S4x8448x2048, .f32⟩
  | .hbm, ⟨53, _⟩ => ⟨S4x8448x2048, .f32⟩
  | .hbm, ⟨54, _⟩ => ⟨S4x8448x2048, .f32⟩
  | .hbm, ⟨55, _⟩ => ⟨S4x8448x2048, .f32⟩
  | .hbm, ⟨56, _⟩ => ⟨S4x8448x4x512, .f32⟩
  | .hbm, ⟨57, _⟩ => ⟨S4x8448x4x512, .f32⟩
  | .hbm, ⟨58, _⟩ => ⟨S_, .f32⟩
  | .hbm, ⟨59, _⟩ => ⟨S4x8448x4, .f32⟩
  | .hbm, ⟨60, _⟩ => ⟨S4x8448x4x1, .f32⟩
  | .hbm, ⟨61, _⟩ => ⟨S_, .f32⟩
  | .hbm, ⟨62, _⟩ => ⟨S4x8448x4x1, .f32⟩
  | .hbm, ⟨63, _⟩ => ⟨S4x8448x4x1, .f32⟩
  | .hbm, ⟨64, _⟩ => ⟨S_, .f32⟩
  | .hbm, ⟨65, _⟩ => ⟨S4x8448x4x1, .f32⟩
  | .hbm, ⟨66, _⟩ => ⟨S4x8448x4x1, .f32⟩
  | .hbm, ⟨67, _⟩ => ⟨S4x8448x4x1, .f32⟩
  | .hbm, ⟨68, _⟩ => ⟨S4x8448x4x512, .f32⟩
  | .hbm, ⟨69, _⟩ => ⟨S4x8448x4x512, .f32⟩
  | .hbm, ⟨70, _⟩ => ⟨S4x512, .f32⟩
  | .hbm, ⟨71, _⟩ => ⟨S1x1x4x512, .f32⟩
  | .hbm, ⟨72, _⟩ => ⟨S4x8448x4x512, .f32⟩
  | .hbm, ⟨73, _⟩ => ⟨S4x8448x4x512, .f32⟩
  | .hbm, ⟨74, _⟩ => ⟨S4x8448x2048, .f32⟩
  | .hbm, ⟨75, _⟩ => ⟨S4x8448x1024, .f32⟩
  | .hbm, ⟨76, _⟩ => ⟨S1x1x1024, .f32⟩
  | .hbm, ⟨77, _⟩ => ⟨S4x256x1024, .f32⟩
  | .hbm, ⟨78, _⟩ => ⟨S4x1x1024, .f32⟩
  | .hbm, ⟨79, _⟩ => ⟨S4x8192x1024, .f32⟩
  | .hbm, ⟨80, _⟩ => ⟨S4x8448x1024, .f32⟩
  | .hbm, ⟨81, _⟩ => ⟨S4x8448x1024, .f32⟩
  | .hbm, ⟨82, _⟩ => ⟨S4x8448x1024, .f32⟩
  | _, _ => ⟨S4x8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_call1_v0 : Ref sig .tc := ⟨.hbm, 45, rfl⟩
abbrev main_call1_v1 : Ref sig .tc := ⟨.hbm, 46, rfl⟩
abbrev main_call1_cst : Ref sig .tc := ⟨.hbm, 47, rfl⟩
abbrev main_call1_v2 : Ref sig .tc := ⟨.hbm, 48, rfl⟩
abbrev main_call1_v3 : Ref sig .tc := ⟨.hbm, 49, rfl⟩
abbrev main_call1_cst_0 : Ref sig .tc := ⟨.hbm, 50, rfl⟩
abbrev main_call1_v4 : Ref sig .tc := ⟨.hbm, 51, rfl⟩
abbrev main_call1_v5 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst : Ref sig .tc := ⟨.hbm, 58, rfl⟩
abbrev main_v33 : Ref sig .tc := ⟨.hbm, 59, rfl⟩
abbrev main_v34 : Ref sig .tc := ⟨.hbm, 60, rfl⟩
abbrev main_cst_0 : Ref sig .tc := ⟨.hbm, 61, rfl⟩
abbrev main_v35 : Ref sig .tc := ⟨.hbm, 62, rfl⟩
abbrev main_v36 : Ref sig .tc := ⟨.hbm, 63, rfl⟩
abbrev main_cst_1 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩

abbrev nD : Nat := 1
abbrev τ : Topo := Topo.v7x

variable {F : FTy → Type} [FloatOps F]
-- ==== Kernel6.lean ====
abbrev S4x8448x1024 : Shape := ⟨3, ![4, 8448, 1024]⟩
abbrev S1024x1536 : Shape := ⟨2, ![1024, 1536]⟩
abbrev S64 : Shape := ⟨1, ![64]⟩
abbrev S8192x32 : Shape := ⟨2, ![8192, 32]⟩
abbrev S_ : Shape := ⟨0, ![]⟩
abbrev S256x32 : Shape := ⟨2, ![256, 32]⟩
abbrev S8448x32 : Shape := ⟨2, ![8448, 32]⟩
abbrev S8448x64 : Shape := ⟨2, ![8448, 64]⟩
abbrev S1x8448x1x64 : Shape := ⟨4, ![1, 8448, 1, 64]⟩
abbrev S1x8448x2x64 : Shape := ⟨4, ![1, 8448, 2, 64]⟩
abbrev S8448x128 : Shape := ⟨2, ![8448, 128]⟩
abbrev S1x8448x128 : Shape := ⟨3, ![1, 8448, 128]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x64 : Shape := ⟨2, ![1, 64]⟩
abbrev S4x64 : Shape := ⟨2, ![4, 64]⟩
abbrev S4x4x8448x64 : Shape := ⟨4, ![4, 4, 8448, 64]⟩
abbrev S1x256x1024 : Shape := ⟨3, ![1, 256, 1024]⟩
abbrev S1x256x128 : Shape := ⟨3, ![1, 256, 128]⟩
abbrev S1x4x256x64 : Shape := ⟨4, ![1, 4, 256, 64]⟩
abbrev S256x1024 : Shape := ⟨2, ![256, 1024]⟩
abbrev S256x1536 : Shape := ⟨2, ![256, 1536]⟩
abbrev S256x128 : Shape := ⟨2, ![256, 128]⟩
abbrev S256x64 : Shape := ⟨2, ![256, 64]⟩
abbrev S1x1x256x64 : Shape := ⟨4, ![1, 1, 256, 64]⟩

abbrev nBuf : Space → Nat
  | .hbm => 77
  | .vmem => 16
  | .smem => 0
  | _ => 0

abbrev bufTy : (tb : Table) → Fin (tcTables nBuf tb) → BufTy
  | .hbm, ⟨0, _⟩ => ⟨S4x8448x1024, .bf16⟩
  | .hbm, ⟨1, _⟩ => ⟨S1024x1536, .f32⟩
  | .hbm, ⟨2, _⟩ => ⟨S64, .f32⟩
  | .hbm, ⟨3, _⟩ => ⟨S64, .f32⟩
  | .hbm, ⟨4, _⟩ => ⟨S8192x32, .f32⟩
  | .hbm, ⟨5, _⟩ => ⟨S_, .f32⟩
  | .hbm, ⟨6, _⟩ => ⟨S256x32, .f32⟩
  | .hbm, ⟨7, _⟩ => ⟨S8448x32, .f32⟩
  | .hbm, ⟨8, _⟩ => ⟨S8448x32, .f32⟩
  | .hbm, ⟨9, _⟩ => ⟨S8448x32, .f32⟩
  | .hbm, ⟨10, _⟩ => ⟨S8448x64, .f32⟩
  | .hbm, ⟨11, _⟩ => ⟨S1x8448x1x64, .f32⟩
  | .hbm, ⟨12, _⟩ => ⟨S1x8448x2x64, .f32⟩
  | .hbm, ⟨13, _⟩ => ⟨S8448x128, .f32⟩
  | .hbm, ⟨14, _⟩ => ⟨S1x8448x128, .f32⟩
  | .hbm, ⟨15, _⟩ => ⟨S8448x32, .f32⟩
  | .hbm, ⟨16, _⟩ => ⟨S8448x64, .f32⟩
  | .hbm, ⟨17, _⟩ => ⟨S1x8448x1x64, .f32⟩
  | .hbm, ⟨18, _⟩ => ⟨S1x8448x2x64, .f32⟩
  | .hbm, ⟨19, _⟩ => ⟨S8448x128, .f32⟩
  | .hbm, ⟨20, _⟩ => ⟨S1x8448x128, .f32⟩
  | .hbm, ⟨21, _⟩ => ⟨S256, .i32⟩
  | .hbm, ⟨22, _⟩ => ⟨S256x1, .i32⟩
  | .hbm, ⟨23, _⟩ => ⟨S_, .i32⟩
  | .hbm, ⟨24, _⟩ => ⟨S_, .i32⟩
  | .hbm, ⟨25, _⟩ => ⟨S256x1, .i32⟩
  | .hbm, ⟨26, _⟩ => ⟨S256x1, .i32⟩
  | .hbm, ⟨27, _⟩ => ⟨S256x1, .i32⟩
  | .hbm, ⟨28, _⟩ => ⟨S_, .i32⟩
  | .hbm, ⟨29, _⟩ => ⟨S256x1, .i32⟩
  | .hbm, ⟨30, _⟩ => ⟨S256x1, .i1⟩
  | .hbm, ⟨31, _⟩ => ⟨S256x1, .i32⟩
  | .hbm, ⟨32, _⟩ => ⟨S256x1, .i32⟩
  | .hbm, ⟨33, _⟩ => ⟨S_, .i32⟩
  | .hbm, ⟨34, _⟩ => ⟨S256x1, .i32⟩
  | .hbm, ⟨35, _⟩ => ⟨S256x1, .i1⟩
  | .hbm, ⟨36, _⟩ => ⟨S256x1, .i1⟩
  | .hbm, ⟨37, _⟩ => ⟨S_, .i32⟩
  | .hbm, ⟨38, _⟩ => ⟨S256x1, .i32⟩
  | .hbm, ⟨39, _⟩ => ⟨S256x1, .i32⟩
  | .hbm, ⟨40, _⟩ => ⟨S256x1, .i32⟩
  | .hbm, ⟨41, _⟩ => ⟨S256, .i32⟩
  | .hbm, ⟨42, _⟩ => ⟨S1x256, .i32⟩
  | .hbm, ⟨43, _⟩ => ⟨S_, .i32⟩
  | .hbm, ⟨44, _⟩ => ⟨S_, .i32⟩
  | .hbm, ⟨45, _⟩ => ⟨S1x256, .i32⟩
  | .hbm, ⟨46, _⟩ => ⟨S1x256, .i32⟩
  | .hbm, ⟨47, _⟩ => ⟨S1x256, .i32⟩
  | .hbm, ⟨48, _⟩ => ⟨S_, .i32⟩
  | .hbm, ⟨49, _⟩ => ⟨S1x256, .i32⟩
  | .hbm, ⟨50, _⟩ => ⟨S1x256, .i1⟩
  | .hbm, ⟨51, _⟩ => ⟨S1x256, .i32⟩
  | .hbm, ⟨52, _⟩ => ⟨S1x256, .i32⟩
  | .hbm, ⟨53, _⟩ => ⟨S_, .i32⟩
  | .hbm, ⟨54, _⟩ => ⟨S1x256, .i32⟩
  | .hbm, ⟨55, _⟩ => ⟨S1x256, .i1⟩
  | .hbm, ⟨56, _⟩ => ⟨S1x256, .i1⟩
  | .hbm, ⟨57, _⟩ => ⟨S_, .i32⟩
  | .hbm, ⟨58, _⟩ => ⟨S1x256, .i32⟩
  | .hbm, ⟨59, _⟩ => ⟨S1x256, .i32⟩
  | .hbm, ⟨60, _⟩ => ⟨S1x256, .i32⟩
  | .hbm, ⟨61, _⟩ => ⟨S256x256, .i32⟩
  | .hbm, ⟨62, _⟩ => ⟨S256x256, .i32⟩
  | .hbm, ⟨63, _⟩ => ⟨S256x256, .i1⟩
  | .hbm, ⟨64, _⟩ => ⟨S256x256, .bf16⟩
  | .hbm, ⟨65, _⟩ => ⟨S1x64, .f32⟩
  | .hbm, ⟨66, _⟩ => ⟨S4x64, .f32⟩
  | .hbm, ⟨67, _⟩ => ⟨S256, .f32⟩
  | .hbm, ⟨68, _⟩ => ⟨S1x256, .f32⟩
  | .hbm, ⟨69, _⟩ => ⟨S1x64, .f32⟩
  | .hbm, ⟨70, _⟩ => ⟨S4x64, .f32⟩
  | .hbm, ⟨71, _⟩ => ⟨S256, .f32⟩
  | .hbm, ⟨72, _⟩ => ⟨S1x256, .f32⟩
  | .hbm, ⟨73, _⟩ => ⟨S1024x1536, .bf16⟩
  | .hbm, ⟨74, _⟩ => ⟨S4x8448x1024, .bf16⟩
  | .hbm, ⟨75, _⟩ => ⟨S4x4x8448x64, .bf16⟩
  | .hbm, ⟨76, _⟩ => ⟨S4x4x8448x64, .bf16⟩
  | .local _ .vmem, ⟨0, _⟩ => ⟨S1x256x1024, .bf16⟩
  | .local _ .vmem, ⟨1, _⟩ => ⟨S1x256x1024, .bf16⟩
  | .local _ .vmem, ⟨2, _⟩ => ⟨S1024x1536, .bf16⟩
  | .local _ .vmem, ⟨3, _⟩ => ⟨S256x256, .bf16⟩
  | .local _ .vmem, ⟨4, _⟩ => ⟨S1x256, .f32⟩
  | .local _ .vmem, ⟨5, _⟩ => ⟨S1x256, .f32⟩
  | .local _ .vmem, ⟨6, _⟩ => ⟨S1x256x128, .f32⟩
  | .local _ .vmem, ⟨7, _⟩ => ⟨S1x256x128, .f32⟩
  | .local _ .vmem, ⟨8, _⟩ => ⟨S1x256x128, .f32⟩
  | .local _ .vmem, ⟨9, _⟩ => ⟨S1x256x128, .f32⟩
  | .local _ .vmem, ⟨10, _⟩ => ⟨S1x256x1024, .bf16⟩
  | .local _ .vmem, ⟨11, _⟩ => ⟨S1x256x1024, .bf16⟩
  | .local _ .vmem, ⟨12, _⟩ => ⟨S1x4x256x64, .bf16⟩
  | .local _ .vmem, ⟨13, _⟩ => ⟨S1x4x256x64, .bf16⟩
  | .local _ .vmem, ⟨14, _⟩ => ⟨S1x4x256x64, .bf16⟩
  | .local _ .vmem, ⟨15, _⟩ => ⟨S1x4x256x64, .bf16⟩
  | _, _ => ⟨S4x8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_c : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_0 : Ref sig .tc := ⟨.hbm, 37, rfl⟩
abbrev main_call0_v12 : Ref sig .tc := ⟨.hbm, 38, rfl⟩
abbrev main_call0_v13 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_c_0 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_c : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_0 : Ref sig .tc := ⟨.hbm, 57, rfl⟩
abbrev main_call1_v12 : Ref sig .tc := ⟨.hbm, 58, rfl⟩
abbrev main_call1_v13 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34_0 : Ref sig .tc := ⟨.hbm, 74, rfl⟩
abbrev main_v34_1 : Ref sig .tc := ⟨.hbm, 75, rfl⟩
abbrev main_v34_2 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![4, 33], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x256x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4x256x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference6Ideal.lean ====
abbrev S4x8448x1024 : Shape := ⟨3, ![4, 8448, 1024]⟩
abbrev S1024x1536 : Shape := ⟨2, ![1024, 1536]⟩
abbrev S64 : Shape := ⟨1, ![64]⟩
abbrev S8192x32 : Shape := ⟨2, ![8192, 32]⟩
abbrev S4x8448x1536 : Shape := ⟨3, ![4, 8448, 1536]⟩
abbrev S4x8448x16x64 : Shape := ⟨4, ![4, 8448, 16, 64]⟩
abbrev S_ : Shape := ⟨0, ![]⟩
abbrev S4x8448x16 : Shape := ⟨3, ![4, 8448, 16]⟩
abbrev S4x8448x16x1 : Shape := ⟨4, ![4, 8448, 16, 1]⟩
abbrev S1x1x1x64 : Shape := ⟨4, ![1, 1, 1, 64]⟩
abbrev S4x8448x256 : Shape := ⟨3, ![4, 8448, 256]⟩
abbrev S4x8448x4x64 : Shape := ⟨4, ![4, 8448, 4, 64]⟩
abbrev S4x8448x4 : Shape := ⟨3, ![4, 8448, 4]⟩
abbrev S4x8448x4x1 : Shape := ⟨4, ![4, 8448, 4, 1]⟩
abbrev S4x256x16x64 : Shape := ⟨4, ![4, 256, 16, 64]⟩
abbrev S4x8192x16x64 : Shape := ⟨4, ![4, 8192, 16, 64]⟩
abbrev S1x8192x1x32 : Shape := ⟨4, ![1, 8192, 1, 32]⟩
abbrev S4x8192x16x32 : Shape := ⟨4, ![4, 8192, 16, 32]⟩
abbrev S4x256x4x64 : Shape := ⟨4, ![4, 256, 4, 64]⟩
abbrev S4x8192x4x64 : Shape := ⟨4, ![4, 8192, 4, 64]⟩
abbrev S4x8192x4x32 : Shape := ⟨4, ![4, 8192, 4, 32]⟩
abbrev S4x4x8448x64 : Shape := ⟨4, ![4, 4, 8448, 64]⟩

abbrev nBuf : Space → Nat
  | .hbm => 94
  | .vmem => 0
  | .smem => 0
  | _ => 0

abbrev bufTy : (tb : Table) → Fin (tcTables nBuf tb) → BufTy
  | .hbm, ⟨0, _⟩ => ⟨S4x8448x1024, .bf16⟩
  | .hbm, ⟨1, _⟩ => ⟨S1024x1536, .f32⟩
  | .hbm, ⟨2, _⟩ => ⟨S64, .f32⟩
  | .hbm, ⟨3, _⟩ => ⟨S64, .f32⟩
  | .hbm, ⟨4, _⟩ => ⟨S8192x32, .f32⟩
  | .hbm, ⟨5, _⟩ => ⟨S4x8448x1024, .f32⟩
  | .hbm, ⟨6, _⟩ => ⟨S4x8448x1536, .f32⟩
  | .hbm, ⟨7, _⟩ => ⟨S4x8448x1024, .f32⟩
  | .hbm, ⟨8, _⟩ => ⟨S4x8448x16x64, .f32⟩
  | .hbm, ⟨9, _⟩ => ⟨S4x8448x16x64, .f32⟩
  | .hbm, ⟨10, _⟩ => ⟨S_, .f32⟩
  | .hbm, ⟨11, _⟩ => ⟨S4x8448x16, .f32⟩
  | .hbm, ⟨12, _⟩ => ⟨S4x8448x16x1, .f32⟩
  | .hbm, ⟨13, _⟩ => ⟨S_, .f32⟩
  | .hbm, ⟨14, _⟩ => ⟨S4x8448x16x1, .f32⟩
  | .hbm, ⟨15, _⟩ => ⟨S4x8448x16x1, .f32⟩
  | .hbm, ⟨16, _⟩ => ⟨S_, .f32⟩
  | .hbm, ⟨17, _⟩ => ⟨S4x8448x16x1, .f32⟩
  | .hbm, ⟨18, _⟩ => ⟨S4x8448x16x1, .f32⟩
  | .hbm, ⟨19, _⟩ => ⟨S4x8448x16x1, .f32⟩
  | .hbm, ⟨20, _⟩ => ⟨S4x8448x16x64, .f32⟩
  | .hbm, ⟨21, _⟩ => ⟨S4x8448x16x64, .f32⟩
  | .hbm, ⟨22, _⟩ => ⟨S1x1x1x64, .f32⟩
  | .hbm, ⟨23, _⟩ => ⟨S4x8448x16x64, .f32⟩
  | .hbm, ⟨24, _⟩ => ⟨S4x8448x16x64, .f32⟩
  | .hbm, ⟨25, _⟩ => ⟨S4x8448x256, .f32⟩
  | .hbm, ⟨26, _⟩ => ⟨S4x8448x4x64, .f32⟩
  | .hbm, ⟨27, _⟩ => ⟨S4x8448x4x64, .f32⟩
  | .hbm, ⟨28, _⟩ => ⟨S_, .f32⟩
  | .hbm, ⟨29, _⟩ => ⟨S4x8448x4, .f32⟩
  | .hbm, ⟨30, _⟩ => ⟨S4x8448x4x1, .f32⟩
  | .hbm, ⟨31, _⟩ => ⟨S_, .f32⟩
  | .hbm, ⟨32, _⟩ => ⟨S4x8448x4x1, .f32⟩
  | .hbm, ⟨33, _⟩ => ⟨S4x8448x4x1, .f32⟩
  | .hbm, ⟨34, _⟩ => ⟨S_, .f32⟩
  | .hbm, ⟨35, _⟩ => ⟨S4x8448x4x1, .f32⟩
  | .hbm, ⟨36, _⟩ => ⟨S4x8448x4x1, .f32⟩
  | .hbm, ⟨37, _⟩ => ⟨S4x8448x4x1, .f32⟩
  | .hbm, ⟨38, _⟩ => ⟨S4x8448x4x64, .f32⟩
  | .hbm, ⟨39, _⟩ => ⟨S4x8448x4x64, .f32⟩
  | .hbm, ⟨40, _⟩ => ⟨S1x1x1x64, .f32⟩
  | .hbm, ⟨41, _⟩ => ⟨S4x8448x4x64, .f32⟩
  | .hbm, ⟨42, _⟩ => ⟨S4x8448x4x64, .f32⟩
  | .hbm, ⟨43, _⟩ => ⟨S4x8448x256, .f32⟩
  | .hbm, ⟨44, _⟩ => ⟨S4x8448x4x64, .f32⟩
  | .hbm, ⟨45, _⟩ => ⟨S4x256x16x64, .f32⟩
  | .hbm, ⟨46, _⟩ => ⟨S4x8192x16x64, .f32⟩
  | .hbm, ⟨47, _⟩ => ⟨S8192x32, .f32⟩
  | .hbm, ⟨48, _⟩ => ⟨S1x8192x1x32, .f32⟩
  | .hbm, ⟨49, _⟩ => ⟨S8192x32, .f32⟩
  | .hbm, ⟨50, _⟩ => ⟨S1x8192x1x32, .f32⟩
  | .hbm, ⟨51, _⟩ => ⟨S4x8192x16x32, .f32⟩
  | .hbm, ⟨52, _⟩ => ⟨S4x8192x16x32, .f32⟩
  | .hbm, ⟨53, _⟩ => ⟨S4x8192x16x32, .f32⟩
  | .hbm, ⟨54, _⟩ => ⟨S4x8192x16x32, .f32⟩
  | .hbm, ⟨55, _⟩ => ⟨S4x8192x16x32, .f32⟩
  | .hbm, ⟨56, _⟩ => ⟨S4x8192x16x32, .f32⟩
  | .hbm, ⟨57, _⟩ => ⟨S4x8192x16x32, .f32⟩
  | .hbm, ⟨58, _⟩ => ⟨S4x8192x16x32, .f32⟩
  | .hbm, ⟨59, _⟩ => ⟨S4x8192x16x32, .f32⟩
  | .hbm, ⟨60, _⟩ => ⟨S4x8192x16x32, .f32⟩
  | .hbm, ⟨61, _⟩ => ⟨S4x8192x16x32, .f32⟩
  | .hbm, ⟨62, _⟩ => ⟨S4x8192x16x32, .f32⟩
  | .hbm, ⟨63, _⟩ => ⟨S4x8192x16x64, .f32⟩
  | .hbm, ⟨64, _⟩ => ⟨S4x8448x16x64, .f32⟩
  | .hbm, ⟨65, _⟩ => ⟨S_, .f32⟩
  | .hbm, ⟨66, _⟩ => ⟨S4x8448x16x64, .f32⟩
  | .hbm, ⟨67, _⟩ => ⟨S4x8448x16x64, .f32⟩
  | .hbm, ⟨68, _⟩ => ⟨S4x256x4x64, .f32⟩
  | .hbm, ⟨69, _⟩ => ⟨S4x8192x4x64, .f32⟩
  | .hbm, ⟨70, _⟩ => ⟨S8192x32, .f32⟩
  | .hbm, ⟨71, _⟩ => ⟨S1x8192x1x32, .f32⟩
  | .hbm, ⟨72, _⟩ => ⟨S8192x32, .f32⟩
  | .hbm, ⟨73, _⟩ => ⟨S1x8192x1x32, .f32⟩
  | .hbm, ⟨74, _⟩ => ⟨S4x8192x4x32, .f32⟩
  | .hbm, ⟨75, _⟩ => ⟨S4x8192x4x32, .f32⟩
  | .hbm, ⟨76, _⟩ => ⟨S4x8192x4x32, .f32⟩
  | .hbm, ⟨77, _⟩ => ⟨S4x8192x4x32, .f32⟩
  | .hbm, ⟨78, _⟩ => ⟨S4x8192x4x32, .f32⟩
  | .hbm, ⟨79, _⟩ => ⟨S4x8192x4x32, .f32⟩
  | .hbm, ⟨80, _⟩ => ⟨S4x8192x4x32, .f32⟩
  | .hbm, ⟨81, _⟩ => ⟨S4x8192x4x32, .f32⟩
  | .hbm, ⟨82, _⟩ => ⟨S4x8192x4x32, .f32⟩
  | .hbm, ⟨83, _⟩ => ⟨S4x8192x4x32, .f32⟩
  | .hbm, ⟨84, _⟩ => ⟨S4x8192x4x32, .f32⟩
  | .hbm, ⟨85, _⟩ => ⟨S4x8192x4x32, .f32⟩
  | .hbm, ⟨86, _⟩ => ⟨S4x8192x4x64, .f32⟩
  | .hbm, ⟨87, _⟩ => ⟨S4x8448x4x64, .f32⟩
  | .hbm, ⟨88, _⟩ => ⟨S4x8448x1024, .f32⟩
  | .hbm, ⟨89, _⟩ => ⟨S4x8448x1024, .bf16⟩
  | .hbm, ⟨90, _⟩ => ⟨S4x4x8448x64, .f32⟩
  | .hbm, ⟨91, _⟩ => ⟨S4x4x8448x64, .bf16⟩
  | .hbm, ⟨92, _⟩ => ⟨S4x4x8448x64, .f32⟩
  | .hbm, ⟨93, _⟩ => ⟨S4x4x8448x64, .bf16⟩
  | _, _ => ⟨S4x8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_cst_5 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩

abbrev nD : Nat := 1
abbrev τ : Topo := Topo.v7x

variable {F : FTy → Type} [FloatOps F]
-- ==== Kernel7.lean ====
abbrev S4x8448x1024 : Shape := ⟨3, ![4, 8448, 1024]⟩
abbrev S1x1024x7232 : Shape := ⟨3, ![1, 1024, 7232]⟩
abbrev S_ : Shape := ⟨0, ![]⟩
abbrev S1024x128 : Shape := ⟨2, ![1024, 128]⟩
abbrev S1024x7232 : Shape := ⟨2, ![1024, 7232]⟩
abbrev S1024x64 : Shape := ⟨2, ![1024, 64]⟩
abbrev S1 : Shape := ⟨1, ![1]⟩
abbrev S33792x1024 : Shape := ⟨2, ![33792, 1024]⟩
abbrev S33792x128 : Shape := ⟨2, ![33792, 128]⟩
abbrev S512x1024 : Shape := ⟨2, ![512, 1024]⟩
abbrev S512x128 : Shape := ⟨2, ![512, 128]⟩

abbrev nBuf : Space → Nat
  | .hbm => 12
  | .vmem => 5
  | .smem => 0
  | _ => 0

abbrev bufTy : (tb : Table) → Fin (tcTables nBuf tb) → BufTy
  | .hbm, ⟨0, _⟩ => ⟨S4x8448x1024, .bf16⟩
  | .hbm, ⟨1, _⟩ => ⟨S1x1024x7232, .f32⟩
  | .hbm, ⟨2, _⟩ => ⟨S_, .f32⟩
  | .hbm, ⟨3, _⟩ => ⟨S1024x128, .f32⟩
  | .hbm, ⟨4, _⟩ => ⟨S1024x7232, .f32⟩
  | .hbm, ⟨5, _⟩ => ⟨S1024x64, .f32⟩
  | .hbm, ⟨6, _⟩ => ⟨S_, .i32⟩
  | .hbm, ⟨7, _⟩ => ⟨S1, .i32⟩
  | .hbm, ⟨8, _⟩ => ⟨S1024x128, .f32⟩
  | .hbm, ⟨9, _⟩ => ⟨S1024x128, .bf16⟩
  | .hbm, ⟨10, _⟩ => ⟨S33792x1024, .bf16⟩
  | .hbm, ⟨11, _⟩ => ⟨S33792x128, .f32⟩
  | .local _ .vmem, ⟨0, _⟩ => ⟨S512x1024, .bf16⟩
  | .local _ .vmem, ⟨1, _⟩ => ⟨S512x1024, .bf16⟩
  | .local _ .vmem, ⟨2, _⟩ => ⟨S1024x128, .bf16⟩
  | .local _ .vmem, ⟨3, _⟩ => ⟨S512x128, .f32⟩
  | .local _ .vmem, ⟨4, _⟩ => ⟨S512x128, .f32⟩
  | _, _ => ⟨S4x8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 66], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S4x8448x1024 : Shape := ⟨3, ![4, 8448, 1024]⟩
abbrev S1x1024x7232 : Shape := ⟨3, ![1, 1024, 7232]⟩
abbrev S33792x1024 : Shape := ⟨2, ![33792, 1024]⟩
abbrev S1024x7232 : Shape := ⟨2, ![1024, 7232]⟩
abbrev S33792x7232 : Shape := ⟨2, ![33792, 7232]⟩
abbrev S33792x64 : Shape := ⟨2, ![33792, 64]⟩
abbrev S_ : Shape := ⟨0, ![]⟩
abbrev S33792x128 : Shape := ⟨2, ![33792, 128]⟩

abbrev nBuf : Space → Nat
  | .hbm => 10
  | .vmem => 0
  | .smem => 0
  | _ => 0

abbrev bufTy : (tb : Table) → Fin (tcTables nBuf tb) → BufTy
  | .hbm, ⟨0, _⟩ => ⟨S4x8448x1024, .bf16⟩
  | .hbm, ⟨1, _⟩ => ⟨S1x1024x7232, .f32⟩
  | .hbm, ⟨2, _⟩ => ⟨S33792x1024, .bf16⟩
  | .hbm, ⟨3, _⟩ => ⟨S33792x1024, .f32⟩
  | .hbm, ⟨4, _⟩ => ⟨S1024x7232, .f32⟩
  | .hbm, ⟨5, _⟩ => ⟨S33792x7232, .f32⟩
  | .hbm, ⟨6, _⟩ => ⟨S33792x64, .f32⟩
  | .hbm, ⟨7, _⟩ => ⟨S_, .f32⟩
  | .hbm, ⟨8, _⟩ => ⟨S33792x64, .f32⟩
  | .hbm, ⟨9, _⟩ => ⟨S33792x128, .f32⟩
  | _, _ => ⟨S4x8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S4x8448x1024 : Shape := ⟨3, ![4, 8448, 1024]⟩
abbrev S1024 : Shape := ⟨1, ![1024]⟩
abbrev S8x6x1024 : Shape := ⟨3, ![8, 6, 1024]⟩
abbrev S1x1024 : Shape := ⟨2, ![1, 1024]⟩
abbrev S1x256x1024 : Shape := ⟨3, ![1, 256, 1024]⟩
abbrev S1x6x1024 : Shape := ⟨3, ![1, 6, 1024]⟩
abbrev S256x1024 : Shape := ⟨2, ![256, 1024]⟩
abbrev S256 : Shape := ⟨1, ![256]⟩
abbrev S256x1 : Shape := ⟨2, ![256, 1]⟩
abbrev S1x1x1024 : Shape := ⟨3, ![1, 1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4x8448x1024, .f32⟩
  | .hbm, ⟨1, _⟩ => ⟨S1024, .f32⟩
  | .hbm, ⟨2, _⟩ => ⟨S8x6x1024, .f32⟩
  | .hbm, ⟨3, _⟩ => ⟨S1x1024, .f32⟩
  | .hbm, ⟨4, _⟩ => ⟨S4x8448x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x6x1024, .f32⟩
  | .local _ .vmem, ⟨4, _⟩ => ⟨S1x6x1024, .f32⟩
  | .local _ .vmem, ⟨5, _⟩ => ⟨S1x256x1024, .bf16⟩
  | .local _ .vmem, ⟨6, _⟩ => ⟨S1x256x1024, .bf16⟩
  | _, _ => ⟨S4x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 33], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c4_i32 : BitVec 32 := 4#32
  let v1 : BitVec 32 := Scalar.select v0 c4_i32 arg0
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S4x8448x1024 : Shape := ⟨3, ![4, 8448, 1024]⟩
abbrev S1024 : Shape := ⟨1, ![1024]⟩
abbrev S8x6x1024 : Shape := ⟨3, ![8, 6, 1024]⟩
abbrev S_ : Shape := ⟨0, ![]⟩
abbrev S4x8448 : Shape := ⟨2, ![4, 8448]⟩
abbrev S4x8448x1 : Shape := ⟨3, ![4, 8448, 1]⟩
abbrev S1x1x1024 : Shape := ⟨3, ![1, 1, 1024]⟩
abbrev S4x256x1024 : Shape := ⟨3, ![4, 256, 1024]⟩
abbrev S4x1x1024 : Shape := ⟨3, ![4, 1, 1024]⟩
abbrev S4x8192x1024 : Shape := ⟨3, ![4, 8192, 1024]⟩

abbrev nBuf : Space → Nat
  | .hbm => 35
  | .vmem => 0
  | .smem => 0
  | _ => 0

abbrev bufTy : (tb : Table) → Fin (tcTables nBuf tb) → BufTy
  | .hbm, ⟨0, _⟩ => ⟨S4x8448x1024, .f32⟩
  | .hbm, ⟨1, _⟩ => ⟨S1024, .f32⟩
  | .hbm, ⟨2, _⟩ => ⟨S8x6x1024, .f32⟩
  | .hbm, ⟨3, _⟩ => ⟨S4x8448x1024, .f32⟩
  | .hbm, ⟨4, _⟩ => ⟨S_, .f32⟩
  | .hbm, ⟨5, _⟩ => ⟨S4x8448, .f32⟩
  | .hbm, ⟨6, _⟩ => ⟨S4x8448x1, .f32⟩
  | .hbm, ⟨7, _⟩ => ⟨S_, .f32⟩
  | .hbm, ⟨8, _⟩ => ⟨S4x8448x1, .f32⟩
  | .hbm, ⟨9, _⟩ => ⟨S4x8448x1, .f32⟩
  | .hbm, ⟨10, _⟩ => ⟨S_, .f32⟩
  | .hbm, ⟨11, _⟩ => ⟨S4x8448x1, .f32⟩
  | .hbm, ⟨12, _⟩ => ⟨S4x8448x1, .f32⟩
  | .hbm, ⟨13, _⟩ => ⟨S4x8448x1, .f32⟩
  | .hbm, ⟨14, _⟩ => ⟨S4x8448x1024, .f32⟩
  | .hbm, ⟨15, _⟩ => ⟨S4x8448x1024, .f32⟩
  | .hbm, ⟨16, _⟩ => ⟨S1x1x1024, .f32⟩
  | .hbm, ⟨17, _⟩ => ⟨S4x8448x1024, .f32⟩
  | .hbm, ⟨18, _⟩ => ⟨S4x8448x1024, .f32⟩
  | .hbm, ⟨19, _⟩ => ⟨S1x1x1024, .f32⟩
  | .hbm, ⟨20, _⟩ => ⟨S4x256x1024, .f32⟩
  | .hbm, ⟨21, _⟩ => ⟨S4x1x1024, .f32⟩
  | .hbm, ⟨22, _⟩ => ⟨S4x8192x1024, .f32⟩
  | .hbm, ⟨23, _⟩ => ⟨S4x8448x1024, .f32⟩
  | .hbm, ⟨24, _⟩ => ⟨S_, .f32⟩
  | .hbm, ⟨25, _⟩ => ⟨S4x8448x1024, .f32⟩
  | .hbm, ⟨26, _⟩ => ⟨S4x8448x1024, .f32⟩
  | .hbm, ⟨27, _⟩ => ⟨S4x8448x1024, .f32⟩
  | .hbm, ⟨28, _⟩ => ⟨S1x1x1024, .f32⟩
  | .hbm, ⟨29, _⟩ => ⟨S4x256x1024, .f32⟩
  | .hbm, ⟨30, _⟩ => ⟨S4x1x1024, .f32⟩
  | .hbm, ⟨31, _⟩ => ⟨S4x8192x1024, .f32⟩
  | .hbm, ⟨32, _⟩ => ⟨S4x8448x1024, .f32⟩
  | .hbm, ⟨33, _⟩ => ⟨S4x8448x1024, .f32⟩
  | .hbm, ⟨34, _⟩ => ⟨S4x8448x1024, .bf16⟩
  | _, _ => ⟨S4x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== Kernel9.lean ====
abbrev S4x8448x3072 : Shape := ⟨3, ![4, 8448, 3072]⟩
abbrev S5x3072 : Shape := ⟨2, ![5, 3072]⟩
abbrev S3072 : Shape := ⟨1, ![3072]⟩
abbrev S1x3072 : Shape := ⟨2, ![1, 3072]⟩
abbrev S1x8x1024 : Shape := ⟨3, ![1, 8, 1024]⟩
abbrev S1x256x1024 : Shape := ⟨3, ![1, 256, 1024]⟩
abbrev S5x1024 : Shape := ⟨2, ![5, 1024]⟩
abbrev S1x1024 : Shape := ⟨2, ![1, 1024]⟩
abbrev S272x1024 : Shape := ⟨2, ![272, 1024]⟩
abbrev S8x1024 : Shape := ⟨2, ![8, 1024]⟩
abbrev S256x1024 : Shape := ⟨2, ![256, 1024]⟩

abbrev nBuf : Space → Nat
  | .hbm => 5
  | .vmem => 13
  | .smem => 0
  | _ => 0

abbrev bufTy : (tb : Table) → Fin (tcTables nBuf tb) → BufTy
  | .hbm, ⟨0, _⟩ => ⟨S4x8448x3072, .f32⟩
  | .hbm, ⟨1, _⟩ => ⟨S5x3072, .f32⟩
  | .hbm, ⟨2, _⟩ => ⟨S3072, .f32⟩
  | .hbm, ⟨3, _⟩ => ⟨S1x3072, .f32⟩
  | .hbm, ⟨4, _⟩ => ⟨S4x8448x3072, .bf16⟩
  | .local _ .vmem, ⟨0, _⟩ => ⟨S1x8x1024, .f32⟩
  | .local _ .vmem, ⟨1, _⟩ => ⟨S1x8x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x8x1024, .f32⟩
  | .local _ .vmem, ⟨5, _⟩ => ⟨S1x8x1024, .f32⟩
  | .local _ .vmem, ⟨6, _⟩ => ⟨S5x1024, .f32⟩
  | .local _ .vmem, ⟨7, _⟩ => ⟨S5x1024, .f32⟩
  | .local _ .vmem, ⟨8, _⟩ => ⟨S1x1024, .f32⟩
  | .local _ .vmem, ⟨9, _⟩ => ⟨S1x1024, .f32⟩
  | .local _ .vmem, ⟨10, _⟩ => ⟨S1x256x1024, .bf16⟩
  | .local _ .vmem, ⟨11, _⟩ => ⟨S1x256x1024, .bf16⟩
  | .local _ .vmem, ⟨12, _⟩ => ⟨S272x1024, .f32⟩
  | _, _ => ⟨S4x8448x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 33, 3], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![arg0.toNat, v2.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c32_i32 : BitVec 32 := 32#32
  let v1 : BitVec 32 := Scalar.muli v0 c32_i32
  let c1055_i32 : BitVec 32 := 1055#32
  let v2 : BitVec 32 := Scalar.minsi v1 c1055_i32
  let c0_i32 : BitVec 32 := 0#32
  ![arg0.toNat, v2.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S5x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Reference9Ideal.lean ====
abbrev S4x8448x3072 : Shape := ⟨3, ![4, 8448, 3072]⟩
abbrev S5x3072 : Shape := ⟨2, ![5, 3072]⟩
abbrev S3072 : Shape := ⟨1, ![3072]⟩
abbrev S4x256x3072 : Shape := ⟨3, ![4, 256, 3072]⟩
abbrev S_ : Shape := ⟨0, ![]⟩
abbrev S4x260x3072 : Shape := ⟨3, ![4, 260, 3072]⟩
abbrev S1x3072 : Shape := ⟨2, ![1, 3072]⟩
abbrev S1x1x3072 : Shape := ⟨3, ![1, 1, 3072]⟩
abbrev S4x8192x3072 : Shape := ⟨3, ![4, 8192, 3072]⟩
abbrev S4x8196x3072 : Shape := ⟨3, ![4, 8196, 3072]⟩

abbrev nBuf : Space → Nat
  | .hbm => 102
  | .vmem => 0
  | .smem => 0
  | _ => 0

abbrev bufTy : (tb : Table) → Fin (tcTables nBuf tb) → BufTy
  | .hbm, ⟨0, _⟩ => ⟨S4x8448x3072, .f32⟩
  | .hbm, ⟨1, _⟩ => ⟨S5x3072, .f32⟩
  | .hbm, ⟨2, _⟩ => ⟨S3072, .f32⟩
  | .hbm, ⟨3, _⟩ => ⟨S4x256x3072, .f32⟩
  | .hbm, ⟨4, _⟩ => ⟨S_, .i32⟩
  | .hbm, ⟨5, _⟩ => ⟨S_, .f32⟩
  | .hbm, ⟨6, _⟩ => ⟨S4x260x3072, .f32⟩
  | .hbm, ⟨7, _⟩ => ⟨S4x256x3072, .f32⟩
  | .hbm, ⟨8, _⟩ => ⟨S1x3072, .f32⟩
  | .hbm, ⟨9, _⟩ => ⟨S3072, .f32⟩
  | .hbm, ⟨10, _⟩ => ⟨S1x1x3072, .f32⟩
  | .hbm, ⟨11, _⟩ => ⟨S4x256x3072, .f32⟩
  | .hbm, ⟨12, _⟩ => ⟨S4x256x3072, .f32⟩
  | .hbm, ⟨13, _⟩ => ⟨S_, .f32⟩
  | .hbm, ⟨14, _⟩ => ⟨S4x256x3072, .f32⟩
  | .hbm, ⟨15, _⟩ => ⟨S4x256x3072, .f32⟩
  | .hbm, ⟨16, _⟩ => ⟨S4x256x3072, .f32⟩
  | .hbm, ⟨17, _⟩ => ⟨S1x3072, .f32⟩
  | .hbm, ⟨18, _⟩ => ⟨S3072, .f32⟩
  | .hbm, ⟨19, _⟩ => ⟨S1x1x3072, .f32⟩
  | .hbm, ⟨20, _⟩ => ⟨S4x256x3072, .f32⟩
  | .hbm, ⟨21, _⟩ => ⟨S4x256x3072, .f32⟩
  | .hbm, ⟨22, _⟩ => ⟨S4x256x3072, .f32⟩
  | .hbm, ⟨23, _⟩ => ⟨S4x256x3072, .f32⟩
  | .hbm, ⟨24, _⟩ => ⟨S1x3072, .f32⟩
  | .hbm, ⟨25, _⟩ => ⟨S3072, .f32⟩
  | .hbm, ⟨26, _⟩ => ⟨S1x1x3072, .f32⟩
  | .hbm, ⟨27, _⟩ => ⟨S4x256x3072, .f32⟩
  | .hbm, ⟨28, _⟩ => ⟨S4x256x3072, .f32⟩
  | .hbm, ⟨29, _⟩ => ⟨S4x256x3072, .f32⟩
  | .hbm, ⟨30, _⟩ => ⟨S4x256x3072, .f32⟩
  | .hbm, ⟨31, _⟩ => ⟨S1x3072, .f32⟩
  | .hbm, ⟨32, _⟩ => ⟨S3072, .f32⟩
  | .hbm, ⟨33, _⟩ => ⟨S1x1x3072, .f32⟩
  | .hbm, ⟨34, _⟩ => ⟨S4x256x3072, .f32⟩
  | .hbm, ⟨35, _⟩ => ⟨S4x256x3072, .f32⟩
  | .hbm, ⟨36, _⟩ => ⟨S4x256x3072, .f32⟩
  | .hbm, ⟨37, _⟩ => ⟨S4x256x3072, .f32⟩
  | .hbm, ⟨38, _⟩ => ⟨S1x3072, .f32⟩
  | .hbm, ⟨39, _⟩ => ⟨S3072, .f32⟩
  | .hbm, ⟨40, _⟩ => ⟨S1x1x3072, .f32⟩
  | .hbm, ⟨41, _⟩ => ⟨S4x256x3072, .f32⟩
  | .hbm, ⟨42, _⟩ => ⟨S4x256x3072, .f32⟩
  | .hbm, ⟨43, _⟩ => ⟨S4x256x3072, .f32⟩
  | .hbm, ⟨44, _⟩ => ⟨S1x1x3072, .f32⟩
  | .hbm, ⟨45, _⟩ => ⟨S4x256x3072, .f32⟩
  | .hbm, ⟨46, _⟩ => ⟨S4x256x3072, .f32⟩
  | .hbm, ⟨47, _⟩ => ⟨S4x8192x3072, .f32⟩
  | .hbm, ⟨48, _⟩ => ⟨S_, .i32⟩
  | .hbm, ⟨49, _⟩ => ⟨S_, .f32⟩
  | .hbm, ⟨50, _⟩ => ⟨S4x8196x3072, .f32⟩
  | .hbm, ⟨51, _⟩ => ⟨S4x8192x3072, .f32⟩
  | .hbm, ⟨52, _⟩ => ⟨S1x3072, .f32⟩
  | .hbm, ⟨53, _⟩ => ⟨S3072, .f32⟩
  | .hbm, ⟨54, _⟩ => ⟨S1x1x3072, .f32⟩
  | .hbm, ⟨55, _⟩ => ⟨S4x8192x3072, .f32⟩
  | .hbm, ⟨56, _⟩ => ⟨S4x8192x3072, .f32⟩
  | .hbm, ⟨57, _⟩ => ⟨S_, .f32⟩
  | .hbm, ⟨58, _⟩ => ⟨S4x8192x3072, .f32⟩
  | .hbm, ⟨59, _⟩ => ⟨S4x8192x3072, .f32⟩
  | .hbm, ⟨60, _⟩ => ⟨S4x8192x3072, .f32⟩
  | .hbm, ⟨61, _⟩ => ⟨S1x3072, .f32⟩
  | .hbm, ⟨62, _⟩ => ⟨S3072, .f32⟩
  | .hbm, ⟨63, _⟩ => ⟨S1x1x3072, .f32⟩
  | .hbm, ⟨64, _⟩ => ⟨S4x8192x3072, .f32⟩
  | .hbm, ⟨65, _⟩ => ⟨S4x8192x3072, .f32⟩
  | .hbm, ⟨66, _⟩ => ⟨S4x8192x3072, .f32⟩
  | .hbm, ⟨67, _⟩ => ⟨S4x8192x3072, .f32⟩
  | .hbm, ⟨68, _⟩ => ⟨S1x3072, .f32⟩
  | .hbm, ⟨69, _⟩ => ⟨S3072, .f32⟩
  | .hbm, ⟨70, _⟩ => ⟨S1x1x3072, .f32⟩
  | .hbm, ⟨71, _⟩ => ⟨S4x8192x3072, .f32⟩
  | .hbm, ⟨72, _⟩ => ⟨S4x8192x3072, .f32⟩
  | .hbm, ⟨73, _⟩ => ⟨S4x8192x3072, .f32⟩
  | .hbm, ⟨74, _⟩ => ⟨S4x8192x3072, .f32⟩
  | .hbm, ⟨75, _⟩ => ⟨S1x3072, .f32⟩
  | .hbm, ⟨76, _⟩ => ⟨S3072, .f32⟩
  | .hbm, ⟨77, _⟩ => ⟨S1x1x3072, .f32⟩
  | .hbm, ⟨78, _⟩ => ⟨S4x8192x3072, .f32⟩
  | .hbm, ⟨79, _⟩ => ⟨S4x8192x3072, .f32⟩
  | .hbm, ⟨80, _⟩ => ⟨S4x8192x3072, .f32⟩
  | .hbm, ⟨81, _⟩ => ⟨S4x8192x3072, .f32⟩
  | .hbm, ⟨82, _⟩ => ⟨S1x3072, .f32⟩
  | .hbm, ⟨83, _⟩ => ⟨S3072, .f32⟩
  | .hbm, ⟨84, _⟩ => ⟨S1x1x3072, .f32⟩
  | .hbm, ⟨85, _⟩ => ⟨S4x8192x3072, .f32⟩
  | .hbm, ⟨86, _⟩ => ⟨S4x8192x3072, .f32⟩
  | .hbm, ⟨87, _⟩ => ⟨S4x8192x3072, .f32⟩
  | .hbm, ⟨88, _⟩ => ⟨S1x1x3072, .f32⟩
  | .hbm, ⟨89, _⟩ => ⟨S4x8192x3072, .f32⟩
  | .hbm, ⟨90, _⟩ => ⟨S4x8192x3072, .f32⟩
  | .hbm, ⟨91, _⟩ => ⟨S4x8448x3072, .f32⟩
  | .hbm, ⟨92, _⟩ => ⟨S4x8448x3072, .f32⟩
  | .hbm, ⟨93, _⟩ => ⟨S4x8448x3072, .f32⟩
  | .hbm, ⟨94, _⟩ => ⟨S_, .f32⟩
  | .hbm, ⟨95, _⟩ => ⟨S4x8448x3072, .f32⟩
  | .hbm, ⟨96, _⟩ => ⟨S4x8448x3072, .f32⟩
  | .hbm, ⟨97, _⟩ => ⟨S_, .f32⟩
  | .hbm, ⟨98, _⟩ => ⟨S4x8448x3072, .f32⟩
  | .hbm, ⟨99, _⟩ => ⟨S4x8448x3072, .f32⟩
  | .hbm, ⟨100, _⟩ => ⟨S4x8448x3072, .f32⟩
  | .hbm, ⟨101, _⟩ => ⟨S4x8448x3072, .bf16⟩
  | _, _ => ⟨S4x8448x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_c_0 : Ref sig .tc := ⟨.hbm, 48, rfl⟩
abbrev main_call1_v0 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_cst_1 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_call2_v0 : Ref sig .tc := ⟨.hbm, 92, rfl⟩
abbrev main_call2_v1 : Ref sig .tc := ⟨.hbm, 93, rfl⟩
abbrev main_call2_cst : Ref sig .tc := ⟨.hbm, 94, rfl⟩
abbrev main_call2_v2 : Ref sig .tc := ⟨.hbm, 95, rfl⟩
abbrev main_call2_v3 : Ref sig .tc := ⟨.hbm, 96, rfl⟩
abbrev main_call2_cst_0 : Ref sig .tc := ⟨.hbm, 97, rfl⟩
abbrev main_call2_v4 : Ref sig .tc := ⟨.hbm, 98, rfl⟩
abbrev main_call2_v5 : Ref sig .tc := ⟨.hbm, 99, rfl⟩
abbrev main_v83 : Ref sig .tc := ⟨.hbm, 100, rfl⟩
abbrev main_v84 : Ref sig .tc := ⟨.hbm, 101, rfl⟩

abbrev nD : Nat := 1
abbrev τ : Topo := Topo.v7x

variable {F : FTy → Type} [FloatOps F]
-- ==== Kernel10.lean ====
abbrev S4x1024 : Shape := ⟨2, ![4, 1024]⟩
abbrev S1024 : Shape := ⟨1, ![1024]⟩
abbrev S2x1024x6144 : Shape := ⟨3, ![2, 1024, 6144]⟩
abbrev S2x6144 : Shape := ⟨2, ![2, 6144]⟩
abbrev S_ : Shape := ⟨0, ![]⟩
abbrev S8x1024 : Shape := ⟨2, ![8, 1024]⟩
abbrev S1 : Shape := ⟨1, ![1]⟩
abbrev S2x1x6144 : Shape := ⟨3, ![2, 1, 6144]⟩
abbrev S2x8x6144 : Shape := ⟨3, ![2, 8, 6144]⟩
abbrev S1x1024x1024 : Shape := ⟨3, ![1, 1024, 1024]⟩
abbrev S1x1x1024 : Shape := ⟨3, ![1, 1, 1024]⟩
abbrev S1x8x1024 : Shape := ⟨3, ![1, 8, 1024]⟩
abbrev S1024x1024 : Shape := ⟨2, ![1024, 1024]⟩
abbrev S1x1024 : Shape := ⟨2, ![1, 1024]⟩

abbrev nBuf : Space → Nat
  | .hbm => 14
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S_, .f32⟩
  | .hbm, ⟨5, _⟩ => ⟨S8x1024, .f32⟩
  | .hbm, ⟨6, _⟩ => ⟨S_, .i32⟩
  | .hbm, ⟨7, _⟩ => ⟨S1, .i32⟩
  | .hbm, ⟨8, _⟩ => ⟨S8x1024, .f32⟩
  | .hbm, ⟨9, _⟩ => ⟨S_, .i32⟩
  | .hbm, ⟨10, _⟩ => ⟨S1, .i32⟩
  | .hbm, ⟨11, _⟩ => ⟨S8x1024, .f32⟩
  | .hbm, ⟨12, _⟩ => ⟨S2x1x6144, .f32⟩
  | .hbm, ⟨13, _⟩ => ⟨S2x8x6144, .f32⟩
  | .local _ .vmem, ⟨0, _⟩ => ⟨S8x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference10Ideal.lean ====
abbrev S4x1024 : Shape := ⟨2, ![4, 1024]⟩
abbrev S1024 : Shape := ⟨1, ![1024]⟩
abbrev S2x1024x6144 : Shape := ⟨3, ![2, 1024, 6144]⟩
abbrev S2x6144 : Shape := ⟨2, ![2, 6144]⟩
abbrev S1x1024 : Shape := ⟨2, ![1, 1024]⟩
abbrev S_ : Shape := ⟨0, ![]⟩
abbrev S3x1024 : Shape := ⟨2, ![3, 1024]⟩
abbrev S8x1024 : Shape := ⟨2, ![8, 1024]⟩
abbrev S1x1024x6144 : Shape := ⟨3, ![1, 1024, 6144]⟩
abbrev S1024x6144 : Shape := ⟨2, ![1024, 6144]⟩
abbrev S8x6144 : Shape := ⟨2, ![8, 6144]⟩
abbrev S1x6144 : Shape := ⟨2, ![1, 6144]⟩
abbrev S6144 : Shape := ⟨1, ![6144]⟩
abbrev S1x8x6144 : Shape := ⟨3, ![1, 8, 6144]⟩
abbrev S2x8x6144 : Shape := ⟨3, ![2, 8, 6144]⟩

abbrev nBuf : Space → Nat
  | .hbm => 36
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S1x1024, .f32⟩
  | .hbm, ⟨5, _⟩ => ⟨S_, .f32⟩
  | .hbm, ⟨6, _⟩ => ⟨S3x1024, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S_, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S1x1024x6144, .f32⟩
  | .hbm, ⟨18, _⟩ => ⟨S1024x6144, .f32⟩
  | .hbm, ⟨19, _⟩ => ⟨S8x6144, .f32⟩
  | .hbm, ⟨20, _⟩ => ⟨S1x6144, .f32⟩
  | .hbm, ⟨21, _⟩ => ⟨S6144, .f32⟩
  | .hbm, ⟨22, _⟩ => ⟨S1x6144, .f32⟩
  | .hbm, ⟨23, _⟩ => ⟨S8x6144, .f32⟩
  | .hbm, ⟨24, _⟩ => ⟨S8x6144, .f32⟩
  | .hbm, ⟨25, _⟩ => ⟨S1x1024x6144, .f32⟩
  | .hbm, ⟨26, _⟩ => ⟨S1024x6144, .f32⟩
  | .hbm, ⟨27, _⟩ => ⟨S8x6144, .f32⟩
  | .hbm, ⟨28, _⟩ => ⟨S1x6144, .f32⟩
  | .hbm, ⟨29, _⟩ => ⟨S6144, .f32⟩
  | .hbm, ⟨30, _⟩ => ⟨S1x6144, .f32⟩
  | .hbm, ⟨31, _⟩ => ⟨S8x6144, .f32⟩
  | .hbm, ⟨32, _⟩ => ⟨S8x6144, .f32⟩
  | .hbm, ⟨33, _⟩ => ⟨S1x8x6144, .f32⟩
  | .hbm, ⟨34, _⟩ => ⟨S1x8x6144, .f32⟩
  | .hbm, ⟨35, _⟩ => ⟨S2x8x6144, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩

abbrev nD : Nat := 1
abbrev τ : Topo := Topo.v7x

variable {F : FTy → Type} [FloatOps F]
-- ==== Proof.FlashPre.lean ====
module

public import proofs.«01_k».proof.Defs
public import proofs.«01_k».proof.Proof.Gen.KernelIdeal
public import Idealize.ShloMosaic.Lib.Pointwise
public import Idealize.ShloMosaic.Lib.ReduceAll
public import Idealize.ShloMosaic.Lib.Affine

/-! # What the precondition gives: every query and every key is real -/

@[expose] public section

set_option maxRecDepth 16384

noncomputable section

namespace Cert.Pre_finite_scores

open Idealize.ShloMosaic

instance facts : Facts where
  bitsLt_bf16_f32 := by decide
  bcast_S_S4x8448x1024 := by decide
  reducesTo_S4x8448x1024_S_d0_1_2 := by decide
  h_S_ := by decide
  bcast_S_S4x4x8448x64 := by decide
  reducesTo_S4x4x8448x64_S_d0_1_2_3 := by decide

/-- The pattern the absolute values are compared with is plus infinity. -/
theorem posInf : Ideal.ofBits FTy.f32 2139095040#32 = (⊤ : EReal) := by simp [Ideal.ofBits, Ideal.ieee]

/-- An extended real whose absolute value is below plus infinity is real. -/
theorem real_of_abs (x : EReal) (h : max x (-x) < ⊤) : ∃ r : ℝ, x = (r : EReal) := by
  induction x using EReal.rec with
  | bot => simp at h
  | coe r => exact ⟨r, rfl⟩
  | top => simp at h

/-- One comparison of the predicate, read back. -/
theorem real_of_cmp (x : EReal) (h : Ideal.cmp .olt (max x (-x)) (Ideal.ofBits FTy.f32 2139095040#32) = 1#1) :
    ∃ r : ℝ, x = (r : EReal) := by
  refine real_of_abs x ?_
  rw [posInf] at h
  by_contra hn
  simp [Ideal.cmp, hn] at h

/-- The precondition makes every query and every key real. -/
theorem real (q : FVec Ideal S4x8448x1024 .bf16) (k v : FVec Ideal S4x4x8448x64 .bf16)
    (h : fn (F := Ideal) q k v = fun _ => 1#1) :
    (∀ i, ∃ r : ℝ, q i = (r : EReal)) ∧ (∀ i, ∃ r : ℝ, k i = (r : EReal)) := by
  have h0 := congrFun h (fun a => a.elim0)
  dsimp only [fn] at h0
  obtain ⟨h1, h2⟩ := IntOp.andi_eq_one.mp h0
  exact ⟨fun i => real_of_cmp _ (Host.reduce_andi_all _ _ _ _ _ h1 i),
    fun i => real_of_cmp _ (Host.reduce_andi_all _ _ _ _ _ h2 i)⟩

end Cert.Pre_finite_scores

end
-- ==== Proof.SoftmaxFold.lean ====
/-
  The mathematics of a softmax-weighted sum taken block by block, over the extended reals.

  A row of real scores `s 0, s 1, …` and extended-real values `v 0, v 1, …`. The blockwise form carries a
  running maximum, a running sum of exponentials and a running weighted sum, each rescaled when the maximum
  moves. `Carried` says what the three hold after `n` keys; `Carried.step` that one more block keeps it;
  `Carried.quotient` that the last quotient is `weighted s v n`; `weighted_of_shift` that the plain form,
  shifted by any real, is the same value. The shift never has to be the maximum: it cancels.
-/
module

public import Idealize.ShloMosaic.PureOps.Ideal

@[expose] public section

noncomputable section

namespace SoftmaxFold

open Idealize.ShloMosaic Finset

/-- The softmax-weighted sum of the first `n` values: each value times its share of the exponentials. -/
def weighted (s : ℕ → ℝ) (v : ℕ → EReal) (n : ℕ) : EReal :=
  ∑ j ∈ range n, ((Real.exp (s j) / ∑ i ∈ range n, Real.exp (s i) : ℝ) : EReal) * v j

/-- What the running maximum, sum of exponentials and weighted sum hold after `n` keys: nothing seen and the
    three at their starting values, or all three relative to one real shift `M`. -/
def Carried (s : ℕ → ℝ) (v : ℕ → EReal) (n : ℕ) (m l a : EReal) : Prop :=
  (n = 0 ∧ m = ⊥ ∧ l = 0 ∧ a = 0) ∨
  ∃ M : ℝ, m = (M : EReal) ∧ l = ((∑ j ∈ range n, Real.exp (s j - M) : ℝ) : EReal)
    ∧ a = ∑ j ∈ range n, ((Real.exp (s j - M) : ℝ) : EReal) * v j

/-- A nonnegative real distributes over a finite sum of extended reals. -/
theorem coe_mul_sum {ι : Type} (c : ℝ) (hc : 0 ≤ c) (t : Finset ι) (f : ι → EReal) :
    (c : EReal) * ∑ j ∈ t, f j = ∑ j ∈ t, (c : EReal) * f j := by
  classical
  induction t using Finset.induction_on with
  | empty => simp
  | insert a t ha ih =>
    rw [sum_insert ha, sum_insert ha, ← ih]
    exact EReal.left_distrib_of_nonneg_of_ne_top (by exact_mod_cast hc) (EReal.coe_ne_top c) _ _

/-- The coercion of a finite real sum. -/
theorem coe_sum {ι : Type} (t : Finset ι) (f : ι → ℝ) :
    ((∑ j ∈ t, f j : ℝ) : EReal) = ∑ j ∈ t, ((f j : ℝ) : EReal) := by
  classical
  induction t using Finset.induction_on with
  | empty => simp
  | insert a t ha ih => rw [sum_insert ha, sum_insert ha, EReal.coe_add, ih]

/-- The coercion of the larger of two reals. -/
theorem coe_max (a b : ℝ) : ((max a b : ℝ) : EReal) = max (a : EReal) (b : EReal) :=
  EReal.coe_strictMono.monotone.map_max

/-- One more block of `b` keys: the three carried values, rescaled to the new maximum and with the block added. -/
theorem Carried.step {s : ℕ → ℝ} {v : ℕ → EReal} {n b : ℕ} {m l a : EReal} (h : Carried s v n m l a) (B : ℝ) :
    Carried s v (n + b) (max m (B : EReal))
      (Ideal.exp (m - max m (B : EReal)) * l
        + ∑ j ∈ range b, Ideal.exp ((s (n + j) : EReal) - max m (B : EReal)))
      (Ideal.exp (m - max m (B : EReal)) * a
        + ∑ j ∈ range b, Ideal.exp ((s (n + j) : EReal) - max m (B : EReal)) * v (n + j)) := by
  right
  have hexp (M : ℝ) (x : ℝ) : Ideal.exp ((x : EReal) - (M : EReal)) = ((Real.exp (x - M) : ℝ) : EReal) := by
    rw [← EReal.coe_sub, Ideal.exp_coe]
  rcases h with ⟨rfl, rfl, rfl, rfl⟩ | ⟨M, rfl, rfl, rfl⟩
  · refine ⟨B, by simp, ?_, ?_⟩
    · have : max (⊥ : EReal) (B : EReal) = B := by simp
      rw [this]
      simp only [hexp, mul_zero, zero_add, ← coe_sum]
    · have : max (⊥ : EReal) (B : EReal) = B := by simp
      rw [this]
      simp only [hexp, mul_zero, zero_add]
  · refine ⟨max M B, by rw [coe_max], ?_, ?_⟩
    · have : max (M : EReal) (B : EReal) = ((max M B : ℝ) : EReal) := (coe_max M B).symm
      rw [this]
      simp only [hexp, ← coe_sum, ← EReal.coe_mul, ← EReal.coe_add]
      congr 1
      rw [sum_range_add, mul_sum]
      congr 1
      refine sum_congr rfl fun j _ => ?_
      rw [← Real.exp_add]; congr 1; ring
    · have : max (M : EReal) (B : EReal) = ((max M B : ℝ) : EReal) := (coe_max M B).symm
      rw [this]
      simp only [hexp]
      rw [sum_range_add, coe_mul_sum _ (Real.exp_nonneg _)]
      congr 1
      refine sum_congr rfl fun j _ => ?_
      rw [← mul_assoc, ← EReal.coe_mul, ← Real.exp_add]
      congr 3; ring

/-- A shift cancels in a share of the exponentials. -/
theorem share_shift (s : ℕ → ℝ) (n : ℕ) (M : ℝ) (j : ℕ) :
    Real.exp (s j - M) / ∑ i ∈ range n, Real.exp (s i - M) = Real.exp (s j) / ∑ i ∈ range n, Real.exp (s i) := by
  simp only [Real.exp_sub, ← sum_div]
  rw [div_div_div_cancel_right₀ (Real.exp_pos M).ne']

/-- The sum of `n > 0` exponentials is positive. -/
theorem sum_exp_pos (s : ℕ → ℝ) {n : ℕ} (hn : 0 < n) (M : ℝ) : 0 < ∑ j ∈ range n, Real.exp (s j - M) :=
  sum_pos (fun _ _ => Real.exp_pos _) ⟨0, mem_range.mpr hn⟩

/-- After all the keys the weighted sum over the sum of exponentials is the softmax-weighted sum. -/
theorem Carried.quotient {s : ℕ → ℝ} {v : ℕ → EReal} {n : ℕ} (hn : 0 < n) {m l a : EReal} (h : Carried s v n m l a) :
    Ideal.div a l = weighted s v n := by
  rcases h with ⟨rfl, -⟩ | ⟨M, -, rfl, rfl⟩
  · omega
  · have hp := sum_exp_pos s hn M
    rw [Ideal.div_coe hp.ne', mul_comm, coe_mul_sum _ (by positivity)]
    refine sum_congr rfl fun j _ => ?_
    rw [← mul_assoc, ← EReal.coe_mul, ← share_shift s n M j]
    congr 2
    ring

/-- The plain form: every score shifted by a real, exponentiated, divided by the sum, times its value. -/
theorem weighted_of_shift (s : ℕ → ℝ) (v : ℕ → EReal) {n : ℕ} (hn : 0 < n) (M : ℝ) :
    ∑ j ∈ range n, v j * Ideal.div (Ideal.exp ((s j : EReal) - (M : EReal)))
        (∑ i ∈ range n, Ideal.exp ((s i : EReal) - (M : EReal))) = weighted s v n := by
  have hexp (x : ℝ) : Ideal.exp ((x : EReal) - (M : EReal)) = ((Real.exp (x - M) : ℝ) : EReal) := by
    rw [← EReal.coe_sub, Ideal.exp_coe]
  simp only [hexp, ← coe_sum]
  have hp := sum_exp_pos s hn M
  refine sum_congr rfl fun j _ => ?_
  rw [Ideal.div_coe hp.ne', mul_comm, ← EReal.coe_mul, ← share_shift s n M j]
  congr 2
  ring

/-- The largest of finitely many reals, taken from `⊥`, is a real when there is at least one. -/
theorem fold_max_coe {ι : Type} [Fintype ι] [Nonempty ι] (f : ι → EReal) (hf : ∀ k, ∃ r : ℝ, f k = r) :
    ∃ B : ℝ, Finset.univ.fold max ⊥ f = (B : EReal) := by
  obtain ⟨k, -, hk⟩ := Finset.exists_max_image Finset.univ f Finset.univ_nonempty
  obtain ⟨r, hr⟩ := hf k
  refine ⟨r, hr ▸ le_antisymm ?_ ?_⟩
  · rw [Finset.fold_max_le]
    exact ⟨bot_le, fun x hx => hk x hx⟩
  · rw [Finset.le_fold_max]
    exact Or.inr ⟨k, Finset.mem_univ _, le_rfl⟩

end SoftmaxFold

end
-- ==== Proof.FlashPay.lean ====
module

public import proofs.«01_k».proof.Proof.Gen.KernelIdeal.Value
public import proofs.«01_k».proof.Proof.SoftmaxFold
public import Idealize.ShloMosaic.Lib.Pointwise

/-! # What one trip of the attention kernel computes, entry by entry

A block holds 128 queries of four heads that share one key/value head; the kernel stacks the four heads, so that row
`r` of its 512 rows is query `r % 128` of head `r / 128`. -/

@[expose] public section

set_option maxRecDepth 16384

noncomputable section

namespace Cert.KernelIdeal.Flash

open Cert.KernelIdeal Cert.KernelIdeal.Gen Idealize.ShloMosaic

/-- The pattern the running maximum starts from is minus infinity. -/
theorem negInf : Ideal.ofBits FTy.f32 4286578688#32 = (⊥ : EReal) := by simp [Ideal.ofBits, Ideal.ieee]

/-- The entry of the query block that row `r` of the stacked heads holds in lane `x`. -/
def qAt (v0 : Vec Ideal S1x128x256 .bf16) (r : Fin 512) (x : Fin 64) : EReal :=
  v0 (ix3 0 ⟨r.val % 128, Nat.mod_lt _ (by decide)⟩ ⟨r.val / 128 * 64 + x.val, by omega⟩)

/-- A score: row `r` of the stacked queries against key `c` of the loaded slab. -/
theorem pay5_apply (v0 : Vec Ideal S1x128x256 .bf16) (v37 : Vec Ideal S1x1x768x64 .bf16) (r : Fin 512) (c : Fin 768) :
    k0_pay5 (F := Ideal) v0 v37 (ix2 r c) = ∑ x : Fin 64, qAt v0 r x * v37 (ix4 0 0 c x) := by
  pointwise [k0_pay5]
  refine Finset.sum_congr rfl fun x _ => ?_
  congr 1
  unfold qAt
  split_ifs <;> (congr 1; congr 1 <;> (apply Fin.ext; dsimp only; omega))

/-- The new running maximum. -/
theorem pay6_apply (v0 : Vec Ideal S1x128x256 .bf16) (a : FVec Ideal S512x1 .f32) (v37 : Vec Ideal S1x1x768x64 .bf16) (r : Fin 512) :
    k0_pay6 (F := Ideal) v0 a v37 (ix2 r 0)
      = max (a (ix2 r 0)) (Finset.univ.fold max (⊥ : EReal) fun x : Fin 768 => k0_pay5 (F := Ideal) v0 v37 (ix2 r x)) := by
  pointwise [k0_pay6]
  rw [negInf]

/-- The new running sum of exponentials. -/
theorem pay9_apply (v0 : Vec Ideal S1x128x256 .bf16) (a b : FVec Ideal S512x1 .f32) (v37 : Vec Ideal S1x1x768x64 .bf16) (r : Fin 512) :
    k0_pay9 (F := Ideal) v0 a b v37 (ix2 r 0)
      = Ideal.exp (a (ix2 r 0) - k0_pay6 (F := Ideal) v0 a v37 (ix2 r 0)) * b (ix2 r 0)
        + ∑ x : Fin 768, Ideal.exp (k0_pay5 (F := Ideal) v0 v37 (ix2 r x) - k0_pay6 (F := Ideal) v0 a v37 (ix2 r 0)) := by
  pointwise [k0_pay9, k0_pay8, k0_pay7]

/-- The new running sum of weighted values. -/
theorem pay10_apply (v0 : Vec Ideal S1x128x256 .bf16) (a : FVec Ideal S512x1 .f32) (b : FVec Ideal S512x64 .f32)
    (v37 v40 : Vec Ideal S1x1x768x64 .bf16) (r : Fin 512) (d : Fin 64) :
    k0_pay10 (F := Ideal) v0 a b v37 v40 (ix2 r d)
      = Ideal.exp (a (ix2 r 0) - k0_pay6 (F := Ideal) v0 a v37 (ix2 r 0)) * b (ix2 r d)
        + ∑ x : Fin 768, Ideal.exp (k0_pay5 (F := Ideal) v0 v37 (ix2 r x) - k0_pay6 (F := Ideal) v0 a v37 (ix2 r 0))
            * v40 (ix4 0 0 x d) := by
  pointwise [k0_pay10, k0_pay8, k0_pay7]

/-- The quotient the kernel stores for row `r` of the stacked heads. -/
def quot (l : FVec Ideal S512x1 .f32) (a : FVec Ideal S512x64 .f32) (r : Fin 512) (d : Fin 64) : EReal :=
  Ideal.div (a (ix2 r d)) (l (ix2 r 0))

theorem pay12_apply (l : FVec Ideal S512x1 .f32) (a : FVec Ideal S512x64 .f32) (r : Fin 128) (d : Fin 64) :
    k0_pay12 (F := Ideal) l a (ix3 0 r d) = quot l a ⟨r.val, by omega⟩ d := by
  pointwise [k0_pay12, k0_pay11, quot]

theorem pay13_apply (l : FVec Ideal S512x1 .f32) (a : FVec Ideal S512x64 .f32) (r : Fin 128) (d : Fin 64) :
    k0_pay13 (F := Ideal) l a (ix3 0 r d) = quot l a ⟨128 + r.val, by omega⟩ d := by
  pointwise [k0_pay13, k0_pay11, quot]

theorem pay14_apply (l : FVec Ideal S512x1 .f32) (a : FVec Ideal S512x64 .f32) (r : Fin 128) (d : Fin 64) :
    k0_pay14 (F := Ideal) l a (ix3 0 r d) = quot l a ⟨256 + r.val, by omega⟩ d := by
  pointwise [k0_pay14, k0_pay11, quot]

theorem pay15_apply (l : FVec Ideal S512x1 .f32) (a : FVec Ideal S512x64 .f32) (r : Fin 128) (d : Fin 64) :
    k0_pay1 (F := Ideal) (k0_pay15 (F := Ideal) l a) (ix3 0 r d) = quot l a ⟨384 + r.val, by omega⟩ d := by
  pointwise [k0_pay1, k0_pay15, k0_pay11, quot]

theorem pay2_apply (r : Fin 512) : k0_pay2 (F := Ideal) (ix2 r 0) = ⊥ := by
  pointwise [k0_pay2]
  exact negInf

theorem pay3_apply (r : Fin 512) : k0_pay3 (F := Ideal) (ix2 r 0) = 0 := by
  pointwise [k0_pay3]

theorem pay4_apply (r : Fin 512) (d : Fin 64) : k0_pay4 (F := Ideal) (ix2 r d) = 0 := by
  pointwise [k0_pay4]

end Cert.KernelIdeal.Flash

end
-- ==== Proof.FlashTrips.lean ====
module

public import proofs.«01_k».proof.Proof.FlashPay
public import Idealize.ShloMosaic.Lib.Pipeline.ValueKit

/-! # The eleven trips of the attention kernel

Before trip `k` the three carried arrays hold, row by row, the running maximum, the running sum of exponentials and the
running weighted sum of the first `768 * k` keys: the statement `SoftmaxFold.Carried`, kept by every trip. -/

@[expose] public section

set_option maxRecDepth 16384

noncomputable section

namespace Cert.KernelIdeal.Flash

open Cert.KernelIdeal Cert.KernelIdeal.Gen Idealize.ShloMosaic SoftmaxFold

/-- The slab of 768 keys (or values) that trip `k` loads. -/
def slab (X : Vec Ideal S1x1x8448x64 .bf16) (k : ℕ) (hk : k < 11) : Vec Ideal S1x1x768x64 .bf16 :=
  fun i => X (ix4 0 0 ⟨768 * k + (i 2).val, by have h : (i 2).val < 768 := (i 2).isLt; omega⟩ ⟨(i 3).val, (i 3).isLt⟩)

/-- One trip on carried arrays `p`, with the slabs it loads. -/
def trip (v0 : Vec Ideal S1x128x256 .bf16) (K V : Vec Ideal S1x1x768x64 .bf16)
    (p : FVec Ideal S512x1 .f32 × FVec Ideal S512x1 .f32 × FVec Ideal S512x64 .f32) :
    FVec Ideal S512x1 .f32 × FVec Ideal S512x1 .f32 × FVec Ideal S512x64 .f32 :=
  (k0_pay6 v0 p.1 K, k0_pay9 v0 p.1 p.2.1 K, k0_pay10 v0 p.1 p.2.2 K V)

/-- A trip keeps `Carried`: the scores of the slab are the reals `s (n + c)`, its values are `v (n + c)`. -/
theorem trip_carried (v0 : Vec Ideal S1x128x256 .bf16) (K V : Vec Ideal S1x1x768x64 .bf16)
    (p : FVec Ideal S512x1 .f32 × FVec Ideal S512x1 .f32 × FVec Ideal S512x64 .f32)
    (r : Fin 512) (d : Fin 64) (s : ℕ → ℝ) (v : ℕ → EReal) (n : ℕ)
    (hs : ∀ c : Fin 768, ∑ x : Fin 64, qAt v0 r x * K (ix4 0 0 c x) = ((s (n + c.val) : ℝ) : EReal))
    (hv : ∀ c : Fin 768, V (ix4 0 0 c d) = v (n + c.val))
    (h : Carried s v n (p.1 (ix2 r 0)) (p.2.1 (ix2 r 0)) (p.2.2 (ix2 r d))) :
    Carried s v (n + 768) ((trip v0 K V p).1 (ix2 r 0)) ((trip v0 K V p).2.1 (ix2 r 0))
      ((trip v0 K V p).2.2 (ix2 r d)) := by
  have h5 : ∀ c : Fin 768, k0_pay5 (F := Ideal) v0 K (ix2 r c) = ((s (n + c.val) : ℝ) : EReal) := fun c =>
    (pay5_apply v0 K r c).trans (hs c)
  obtain ⟨B, hB⟩ := fold_max_coe (fun c : Fin 768 => k0_pay5 (F := Ideal) v0 K (ix2 r c)) fun c => ⟨_, h5 c⟩
  have h6 : k0_pay6 (F := Ideal) v0 p.1 K (ix2 r 0) = max (p.1 (ix2 r 0)) ((B : ℝ) : EReal) :=
    (pay6_apply v0 p.1 K r).trans (by rw [hB])
  have key := h.step B (b := 768)
  dsimp only [trip]
  rw [pay9_apply, pay10_apply, h6]
  rw [← Fin.sum_univ_eq_sum_range (fun j => Ideal.exp ((s (n + j) : EReal) - max (p.1 (ix2 r 0)) (B : EReal))) 768,
    ← Fin.sum_univ_eq_sum_range
      (fun j => Ideal.exp ((s (n + j) : EReal) - max (p.1 (ix2 r 0)) (B : EReal)) * v (n + j)) 768] at key
  simp only [h5, hv]
  exact key

variable (c : Dev nD) (i : grid0.Coords) (arg3 : Memref sig .tc .vmem S1x128x256 .bf16) (harg3 : arg3.IsWhole)
  (arg4 : Memref sig .tc .vmem S1x1x8448x64 .bf16) (harg4 : arg4.IsWhole)
  (arg5 : Memref sig .tc .vmem S1x1x8448x64 .bf16) (harg5 : arg5.IsWhole)
  (arg6 : Memref sig .tc .vmem S1x128x256 .bf16) (harg6 : arg6.IsWhole)
  (v0 : Vec Ideal S1x128x256 .bf16)

/-- The carried arrays before trip `k`, started as the kernel starts them. -/
abbrev carry (x1 x2 : Vec Ideal S1x1x8448x64 .bf16) (k : ℕ) :
    FVec Ideal S512x1 .f32 × FVec Ideal S512x1 .f32 × FVec Ideal S512x64 .f32 :=
  st_k0_t1 (F := Ideal) Variants.none c none i arg3 harg3 arg4 harg4 arg5 harg5 arg6 harg6 v0
    (harg4.unread x1) (harg5.unread x2) (k0_pay2, k0_pay3, k0_pay4) k

theorem trips_eq : k0_t1_loop.trips = 11 := by decide +kernel

/-- One trip of the loop is `trip` on the slabs it loads. -/
theorem carry_succ (x1 x2 : Vec Ideal S1x1x8448x64 .bf16) (k : ℕ) (hk : k < 11) :
    carry c i arg3 harg3 arg4 harg4 arg5 harg5 arg6 harg6 v0 x1 x2 (k + 1)
      = trip v0 (slab x1 k hk) (slab x2 k hk) (carry c i arg3 harg3 arg4 harg4 arg5 harg5 arg6 harg6 v0 x1 x2 k) := by
  have hk' : k < k0_t1_loop.trips := by rw [trips_eq]; exact hk
  refine (st_k0_t1_succ (F := Ideal) Variants.none c none i arg3 harg3 arg4 harg4 arg5 harg5 arg6 harg6 v0
    (harg4.unread x1) (harg5.unread x2) (k0_pay2, k0_pay3, k0_pay4) ⟨k, hk'⟩).trans ?_
  unfold tripR_k0_t1 trip_k0_t1
  dsimp only
  have h1 : ∀ (h : ∀ a, k0_off1 (⟨k, hk'⟩ : Fin k0_t1_loop.trips) a + ![1, 1, 768, 64] a ≤ S1x1x8448x64.size a),
      View.readAt (Elt Ideal) arg4.view (Rect.unit (k0_off1 (⟨k, hk'⟩ : Fin k0_t1_loop.trips)) ![1, 1, 768, 64] h).toLoadRect
        (harg4.unread x1) = slab x1 k hk := by
    intro h
    rw [View.readAt_eq_ld, harg4.read_unread]
    funext j
    refine View.ld_unit_apply_of x1 _ _ h j _ fun a => ?_
    have hoff : k0_off1 (⟨k, hk'⟩ : Fin k0_t1_loop.trips) = ![0, 0, 768 * k, 0] := k0_off1_eq _
    have h0 : (j 0).val < 1 := (j 0).isLt
    have h1 : (j 1).val < 1 := (j 1).isLt
    have e0 := congrFun hoff 0
    have e1 := congrFun hoff 1
    have e2 := congrFun hoff 2
    have e3 := congrFun hoff 3
    change k0_off1 _ _ = 0 at e0 e1 e3
    change k0_off1 _ _ = 768 * k at e2
    fin_cases a
    · show 0 = k0_off1 (⟨k, hk'⟩ : Fin k0_t1_loop.trips) 0 + (j 0).val; omega
    · show 0 = k0_off1 (⟨k, hk'⟩ : Fin k0_t1_loop.trips) 1 + (j 1).val; omega
    · show 768 * k + (j 2).val = k0_off1 (⟨k, hk'⟩ : Fin k0_t1_loop.trips) 2 + (j 2).val; omega
    · show (j 3).val = k0_off1 (⟨k, hk'⟩ : Fin k0_t1_loop.trips) 3 + (j 3).val; omega
  have h2 : ∀ (h : ∀ a, k0_off1 (⟨k, hk'⟩ : Fin k0_t1_loop.trips) a + ![1, 1, 768, 64] a ≤ S1x1x8448x64.size a),
      View.readAt (Elt Ideal) arg5.view (Rect.unit (k0_off1 (⟨k, hk'⟩ : Fin k0_t1_loop.trips)) ![1, 1, 768, 64] h).toLoadRect
        (harg5.unread x2) = slab x2 k hk := by
    intro h
    rw [View.readAt_eq_ld, harg5.read_unread]
    funext j
    refine View.ld_unit_apply_of x2 _ _ h j _ fun a => ?_
    have hoff : k0_off1 (⟨k, hk'⟩ : Fin k0_t1_loop.trips) = ![0, 0, 768 * k, 0] := k0_off1_eq _
    have h0 : (j 0).val < 1 := (j 0).isLt
    have h1 : (j 1).val < 1 := (j 1).isLt
    have e0 := congrFun hoff 0
    have e1 := congrFun hoff 1
    have e2 := congrFun hoff 2
    have e3 := congrFun hoff 3
    change k0_off1 _ _ = 0 at e0 e1 e3
    change k0_off1 _ _ = 768 * k at e2
    fin_cases a
    · show 0 = k0_off1 (⟨k, hk'⟩ : Fin k0_t1_loop.trips) 0 + (j 0).val; omega
    · show 0 = k0_off1 (⟨k, hk'⟩ : Fin k0_t1_loop.trips) 1 + (j 1).val; omega
    · show 768 * k + (j 2).val = k0_off1 (⟨k, hk'⟩ : Fin k0_t1_loop.trips) 2 + (j 2).val; omega
    · show (j 3).val = k0_off1 (⟨k, hk'⟩ : Fin k0_t1_loop.trips) 3 + (j 3).val; omega
  rw [h1, h2]
  rfl

/-- After all eleven trips: every key has been counted. -/
theorem carry_all (x1 x2 : Vec Ideal S1x1x8448x64 .bf16) (r : Fin 512) (d : Fin 64) (s : ℕ → ℝ) (v : ℕ → EReal)
    (hs : ∀ j : Fin 8448, ∑ x : Fin 64, qAt v0 r x * x1 (ix4 0 0 j x) = ((s j.val : ℝ) : EReal))
    (hv : ∀ j : Fin 8448, x2 (ix4 0 0 j d) = v j.val) (k : ℕ) (hk : k ≤ 11) :
    Carried s v (768 * k) ((carry c i arg3 harg3 arg4 harg4 arg5 harg5 arg6 harg6 v0 x1 x2 k).1 (ix2 r 0))
      ((carry c i arg3 harg3 arg4 harg4 arg5 harg5 arg6 harg6 v0 x1 x2 k).2.1 (ix2 r 0))
      ((carry c i arg3 harg3 arg4 harg4 arg5 harg5 arg6 harg6 v0 x1 x2 k).2.2 (ix2 r d)) := by
  induction k with
  | zero => exact Or.inl ⟨rfl, pay2_apply r, pay3_apply r, pay4_apply r d⟩
  | succ k ih =>
    rw [carry_succ c i arg3 harg3 arg4 harg4 arg5 harg5 arg6 harg6 v0 x1 x2 k (by omega)]
    exact trip_carried v0 _ _ _ r d s v (768 * k) (fun c => hs ⟨768 * k + c.val, by omega⟩)
      (fun c => hv ⟨768 * k + c.val, by omega⟩) (ih (by omega))

/-- The quotient stored for row `r`, lane `d`: the values averaged with softmax weights. -/
theorem quot_carry (x1 x2 : Vec Ideal S1x1x8448x64 .bf16) (r : Fin 512) (d : Fin 64) (s : ℕ → ℝ) (v : ℕ → EReal)
    (hs : ∀ j : Fin 8448, ∑ x : Fin 64, qAt v0 r x * x1 (ix4 0 0 j x) = ((s j.val : ℝ) : EReal))
    (hv : ∀ j : Fin 8448, x2 (ix4 0 0 j d) = v j.val) :
    quot (carry c i arg3 harg3 arg4 harg4 arg5 harg5 arg6 harg6 v0 x1 x2 11).2.1
      (carry c i arg3 harg3 arg4 harg4 arg5 harg5 arg6 harg6 v0 x1 x2 11).2.2 r d = weighted s v 8448 :=
  (carry_all c i arg3 harg3 arg4 harg4 arg5 harg5 arg6 harg6 v0 x1 x2 r d s v hs hv 11 le_rfl).quotient (by decide)

end Cert.KernelIdeal.Flash

end
-- ==== Proof.FlashBlock.lean ====
module

public import proofs.«01_k».proof.Proof.FlashTrips

/-! # The attention kernel's result array

What one grid point stores, and from it the whole result array, in terms of the arguments. -/

@[expose] public section

set_option maxRecDepth 16384

noncomputable section

namespace Cert.KernelIdeal.Flash

open Cert.KernelIdeal Cert.KernelIdeal.Gen Idealize.ShloMosaic Idealize.ShloMosaic.TcCoe Idealize.SL.Sem SoftmaxFold
open Idealize.ShloMosaic.Pipeline (Dat)

/-- What the body leaves in its result block at query `y 1`, lane `y 2`: the quotient of row
`y 2 / 64 * 128 + y 1`, lane `y 2 % 64`. -/
theorem out_apply (c : Dev nD) (i : grid0.Coords) (arg3 : Memref sig .tc .vmem S1x128x256 .bf16) (harg3 : arg3.IsWhole)
    (arg4 : Memref sig .tc .vmem S1x1x8448x64 .bf16) (harg4 : arg4.IsWhole)
    (arg5 : Memref sig .tc .vmem S1x1x8448x64 .bf16) (harg5 : arg5.IsWhole)
    (arg6 : Memref sig .tc .vmem S1x128x256 .bf16) (harg6 : arg6.IsWhole)
    (x0 : Vec Ideal S1x128x256 .bf16) (x1 x2 : Vec Ideal S1x1x8448x64 .bf16) (y : S1x128x256.Idx)
    (r : Fin 512) (d : Fin 64) (hr : r.val = (y 2).val / 64 * 128 + (y 1).val) (hd : d.val = (y 2).val % 64) :
    out0_A_3 (F := Ideal) c i arg3 harg3 arg4 harg4 arg5 harg5 arg6 harg6 x0 x1 x2 y
      = quot (carry c i arg3 harg3 arg4 harg4 arg5 harg5 arg6 harg6 x0 x1 x2 11).2.1
          (carry c i arg3 harg3 arg4 harg4 arg5 harg5 arg6 harg6 x0 x1 x2 11).2.2 r d := by
  unfold out0_A_3
  rw [View.read_writes_eq_canon _ _ _ (cover0_A_3 c i arg3 harg3 arg4 harg4 arg5 harg5 arg6 harg6 x0 x1 x2)]
  unfold kernelRun0_A
  dsimp only
  sl_unfold_words
  have hq : View.readAt (Elt Ideal) arg3.view (Rect.unit ![0, 0, 0] ![1, 128, 256] (by decide)).toLoadRect (harg3.unread x0) = x0 := by
    rw [View.readAt_eq_ld, harg3.read_unread]
    exact View.ld_unit_zero (S := S1x128x256) (by decide) _ _
  have ht : Scf.trips 0#32 (Scalar.addi 0#32 11#32) 1#32 = 11 := by decide
  canon_tiles x h
  · have hx : x = ix3 0 ⟨(x 1).val, x1_lt⟩ ⟨(x 2).val, x2_lt⟩ := by blk_ext
    rw [hq, ht]
    refine (congrArg _ hx).trans ((pay15_apply _ _ _ _).trans ?_)
    congr 1 <;> (apply Fin.ext; dsimp only; omega)
  · have hx : x = ix3 0 ⟨(x 1).val, x1_lt⟩ ⟨(x 2).val, x2_lt⟩ := by blk_ext
    rw [hq, ht]
    refine (congrArg _ hx).trans ((pay14_apply _ _ _ _).trans ?_)
    congr 1 <;> (apply Fin.ext; dsimp only; omega)
  · have hx : x = ix3 0 ⟨(x 1).val, x1_lt⟩ ⟨(x 2).val, x2_lt⟩ := by blk_ext
    rw [hq, ht]
    refine (congrArg _ hx).trans ((pay13_apply _ _ _ _).trans ?_)
    congr 1 <;> (apply Fin.ext; dsimp only; omega)
  · have hx : x = ix3 0 ⟨(x 1).val, x1_lt⟩ ⟨(x 2).val, x2_lt⟩ := by blk_ext
    rw [hq, ht]
    refine (congrArg _ hx).trans ((pay12_apply _ _ _ _).trans ?_)
    congr 1 <;> (apply Fin.ext; dsimp only; omega)

end Cert.KernelIdeal.Flash

end
-- ==== Proof.FlashValue.lean ====
module

public import proofs.«01_k».proof.Proof.FlashBlock

/-! # The attention kernel's result array in terms of its arguments -/

@[expose] public section

set_option maxRecDepth 16384

noncomputable section

namespace Cert.KernelIdeal.Flash

open Cert.KernelIdeal Cert.KernelIdeal.Gen Idealize.ShloMosaic Idealize.ShloMosaic.TcCoe Idealize.SL.Sem SoftmaxFold
open Idealize.ShloMosaic.Pipeline (Dat)

/-- The score of key `j` for latent query `n` (which follows the 256 context tokens), lane `l` naming the head. -/
def score (q : Vec Ideal S4x8448x1024 .bf16) (k : Vec Ideal S4x4x8448x64 .bf16) (b : Fin 4) (n : Fin 8192)
    (l : Fin 1024) (j : Fin 8448) : EReal :=
  ∑ x : Fin 64, q (ix3 b ⟨256 + n.val, by omega⟩ ⟨l.val / 64 * 64 + x.val, by omega⟩)
    * k (ix4 b ⟨l.val / 256, by omega⟩ j x)

/-- The scores as reals, by the key's number. -/
def scores (q : Vec Ideal S4x8448x1024 .bf16) (k : Vec Ideal S4x4x8448x64 .bf16) (b : Fin 4) (n : Fin 8192)
    (l : Fin 1024) (j : ℕ) : ℝ :=
  if h : j < 8448 then (score q k b n l ⟨j, h⟩).toReal else 0

/-- The values in lane `l`, by the key's number. -/
def values (v : Vec Ideal S4x4x8448x64 .bf16) (b : Fin 4) (l : Fin 1024) (j : ℕ) : EReal :=
  if h : j < 8448 then v (ix4 b ⟨l.val / 256, by omega⟩ ⟨j, h⟩ ⟨l.val % 64, by omega⟩) else 0

/-- Attention at query `n`, lane `l`: the values averaged with softmax weights over all 8448 keys. -/
def attend (q : Vec Ideal S4x8448x1024 .bf16) (k v : Vec Ideal S4x4x8448x64 .bf16) (b : Fin 4) (n : Fin 8192)
    (l : Fin 1024) : EReal :=
  weighted (scores q k b n l) (values v b l) 8448

/-- With real queries and keys every score is real. -/
theorem score_real (q : Vec Ideal S4x8448x1024 .bf16) (k : Vec Ideal S4x4x8448x64 .bf16)
    (hq : ∀ i, ∃ r : ℝ, q i = (r : EReal)) (hk : ∀ i, ∃ r : ℝ, k i = (r : EReal)) (b : Fin 4) (n : Fin 8192)
    (l : Fin 1024) (j : Fin 8448) : score q k b n l j = ((scores q k b n l j.val : ℝ) : EReal) := by
  choose fq hfq using hq
  choose fk hfk using hk
  have h : score q k b n l j = ((∑ x : Fin 64, fq (ix3 b ⟨256 + n.val, by omega⟩ ⟨l.val / 64 * 64 + x.val, by omega⟩)
      * fk (ix4 b ⟨l.val / 256, by omega⟩ j x) : ℝ) : EReal) := by
    unfold score
    rw [coe_sum]
    refine Finset.sum_congr rfl fun x _ => ?_
    rw [hfq, hfk, EReal.coe_mul]
  unfold scores
  rw [dif_pos j.isLt, h, EReal.toReal_coe]

theorem values_apply (v : Vec Ideal S4x4x8448x64 .bf16) (b : Fin 4) (l : Fin 1024) (j : Fin 8448) :
    v (ix4 b ⟨l.val / 256, by omega⟩ j ⟨l.val % 64, by omega⟩) = values v b l j.val := by
  unfold values
  rw [dif_pos j.isLt]

variable (m : (ℓ : Loc nD τ sig) → Buf (Elt Ideal) ℓ)

/-- The blocks each grid point works on. -/
theorem idx : ∀ t : Fin cfg0.N,
    win0_0.index t = ![t.val / 256, t.val % 64 + 2, t.val / 64 % 4]
    ∧ win0_1.index t = ![t.val / 256, t.val / 64 % 4, 0, 0]
    ∧ win0_2.index t = ![t.val / 256, t.val / 64 % 4, 0, 0]
    ∧ win0_3.index t = ![t.val / 256, t.val % 64, t.val / 64 % 4] :=
  (by decide +kernel : ∀ t : Fin grid0.N, _)

/-- The result array after the run. -/
theorem final (c : Dev nD)
    (hq : ∀ i, ∃ r : ℝ, (m ((c : Thread nD τ).loc main_arg0) : Vec Ideal S4x8448x1024 .bf16) i = (r : EReal))
    (hk : ∀ i, ∃ r : ℝ, (m ((c : Thread nD τ).loc main_arg1) : Vec Ideal S4x4x8448x64 .bf16) i = (r : EReal)) :
    (dats m 0 c).arrAt 3 cfg0.N
      = fun y : S4x8192x1024.Idx => attend (m ((c : Thread nD τ).loc main_arg0)) (m ((c : Thread nD τ).loc main_arg1))
          (m ((c : Thread nD τ).loc main_arg2)) (y 0) (y 1) (y 2) := by
  refine (dats m 0 c).arrAt_eq_of_covers 3 _ (by decide +kernel) fun t hf y => ?_
  blk_simp
  rw [after0_3]
  unfold outsAt0
  have hy1 : (y 1).val < 128 := (y 1).isLt
  have hy2 : (y 2).val < 256 := (y 2).isLt
  refine (out_apply c _ _ _ _ _ _ _ _ _ _ _ _ y ⟨(y 2).val / 64 * 128 + (y 1).val, by omega⟩
    ⟨(y 2).val % 64, by omega⟩ rfl rfl).trans ?_
  refine quot_carry c _ _ _ _ _ _ _ _ _ _ _ _ _ _ _ _ (fun j => ?_) (fun j => ?_)
  · refine Eq.trans ?_ (score_real _ _ hq hk _ _ _ j)
    unfold score qAt
    blk_point [iblk, V, idx t]
  · refine Eq.trans ?_ (values_apply _ _ _ j)
    blk_point [iblk, V, idx t]

end Cert.KernelIdeal.Flash

end
-- ==== Proof.FlashRef.lean ====
module

public import proofs.«01_k».proof.Proof.FlashValue
public import proofs.«01_k».proof.Proof.Gen.ReferenceIdeal.Read

/-! # The plain attention, entry by entry -/

@[expose] public section

set_option maxRecDepth 16384

noncomputable section

namespace Cert.ReferenceIdeal.Flash

open Cert.ReferenceIdeal Cert.ReferenceIdeal.Gen Cert.ReferenceIdeal.Read Idealize.ShloMosaic SoftmaxFold

/-- A score of the reference is the score of the kernel's row. -/
theorem v6_apply (q : FVec Ideal S4x8448x1024 .bf16) (k : FVec Ideal S4x4x8448x64 .bf16) (b h g : Fin 4)
    (n : Fin 8192) (j : Fin 8448) (l : Fin 1024) (hh : h.val = l.val / 256) (hg : g.val = l.val / 64 % 4) :
    val_main_v6 (F := Ideal) q k (ix5 b h g n j) = Cert.KernelIdeal.Flash.score q k b n l j := by
  pointwise [val_main_v6, val_main_v5, val_main_v3, val_main_v2, val_main_v1, val_main_v0]
  unfold Cert.KernelIdeal.Flash.score
  refine Finset.sum_congr rfl fun x _ => ?_
  rw [mul_comm]
  congr 1
  · congr 2; apply Fin.ext; dsimp only; omega
  · congr 2; apply Fin.ext; dsimp only; omega

/-- The row maximum of real scores is real. -/
theorem v7_real (q : FVec Ideal S4x8448x1024 .bf16) (k : FVec Ideal S4x4x8448x64 .bf16)
    (h6 : ∀ i, ∃ r : ℝ, val_main_v6 (F := Ideal) q k i = (r : EReal)) (i : S4x4x4x8192.Idx) :
    ∃ M : ℝ, val_main_v7 (F := Ideal) q k i = (M : EReal) := by
  unfold val_main_v7
  generalize val_main_v6 (F := Ideal) q k = y at h6 ⊢
  have hr : S4x4x4x8192x8448.Reduces [4] S4x4x4x8192 := by decide
  have h := Host.reduce_eq_fold_single (max : EReal → EReal → EReal) y (val_main_cst (F := Ideal))
    reducesTo_S4x4x4x8192x8448_S4x4x4x8192_d4 hr h_S_ i
  haveI : Nonempty (Fin (S4x4x4x8192x8448.size 4)) := ⟨⟨0, by decide⟩⟩
  obtain ⟨B, hB⟩ := fold_max_coe (y ∘ hr.lift i) fun x => h6 _
  refine ⟨B, Eq.trans h (Eq.trans ?_ hB)⟩
  rw [val_main_cst_apply, Ideal.ofBits_def]
  exact congrArg (fun z => Finset.fold max z (y ∘ hr.lift i) Finset.univ) Cert.KernelIdeal.Flash.negInf

/-- What the reference subtracts from the scores is real. -/
theorem v9_real (q : FVec Ideal S4x8448x1024 .bf16) (k : FVec Ideal S4x4x8448x64 .bf16)
    (h6 : ∀ i, ∃ r : ℝ, val_main_v6 (F := Ideal) q k i = (r : EReal)) (i : S4x4x4x8192.Idx) :
    ∃ M : ℝ, val_main_v9 (F := Ideal) q k i = (M : EReal) := by
  obtain ⟨M, hM⟩ := v7_real q k h6 i
  refine ⟨M, ?_⟩
  rw [val_main_v9_apply, val_main_v8_apply, val_main_cst_0_apply, hM, Ideal.ofBits_def]
  refine Eq.trans (congrArg (fun z : EReal => max z (M : EReal)) Cert.KernelIdeal.Flash.negInf) ?_
  exact max_eq_right bot_le

/-- The weights: exponentials of shifted scores over their sum. -/
theorem v17_apply (q : FVec Ideal S4x8448x1024 .bf16) (k : FVec Ideal S4x4x8448x64 .bf16) (b h g : Fin 4)
    (n : Fin 8192) (j : Fin 8448) :
    val_main_v17 (F := Ideal) q k (ix5 b h g n j)
      = Ideal.div (Ideal.exp (val_main_v6 (F := Ideal) q k (ix5 b h g n j) - val_main_v9 (F := Ideal) q k (ix4 b h g n)))
          (∑ x : Fin 8448, Ideal.exp (val_main_v6 (F := Ideal) q k (ix5 b h g n x)
            - val_main_v9 (F := Ideal) q k (ix4 b h g n))) := by
  pointwise [val_main_v17, val_main_v16, val_main_v15, val_main_v14, val_main_v13, val_main_v12, val_main_v11,
    val_main_v10, val_main_cst_1]

theorem v21_apply (q : FVec Ideal S4x8448x1024 .bf16) (k v : FVec Ideal S4x4x8448x64 .bf16) (b : Fin 4)
    (n : Fin 8192) (l : Fin 1024) :
    val_main_v21 (F := Ideal) q k v (ix3 b n l)
      = ∑ x : Fin 8448, v (ix4 b ⟨l.val / 256, by omega⟩ x ⟨l.val % 64, by omega⟩)
          * val_main_v17 (F := Ideal) q k (ix5 b ⟨l.val / 256, by omega⟩ ⟨l.val / 64 % 4, by omega⟩ n x) := by
  pointwise [val_main_v21, val_main_v20, val_main_v19, val_main_v18, val_main_v4]

/-- The reference's result is the attention the kernel computes. -/
theorem result (q : FVec Ideal S4x8448x1024 .bf16) (k v : FVec Ideal S4x4x8448x64 .bf16)
    (hq : ∀ i, ∃ r : ℝ, q i = (r : EReal)) (hk : ∀ i, ∃ r : ℝ, k i = (r : EReal)) (b : Fin 4)
    (n : Fin 8192) (l : Fin 1024) :
    val_main_v21 (F := Ideal) q k v (ix3 b n l) = Cert.KernelIdeal.Flash.attend q k v b n l := by
  have hs : ∀ (h g : Fin 4) (j : Fin 8448), h.val = l.val / 256 → g.val = l.val / 64 % 4 →
      val_main_v6 (F := Ideal) q k (ix5 b h g n j)
        = ((Cert.KernelIdeal.Flash.scores q k b n l j.val : ℝ) : EReal) := fun h g j hh hg =>
    (v6_apply q k b h g n j l hh hg).trans (Cert.KernelIdeal.Flash.score_real q k hq hk b n l j)
  have h6 : ∀ i, ∃ r : ℝ, val_main_v6 (F := Ideal) q k i = (r : EReal) := by
    intro i
    idx_vars i
    exact ⟨_, (v6_apply q k i0 i1 i2 i3 i4 ⟨i1.val * 256 + i2.val * 64, by omega⟩ (by dsimp only; omega)
      (by dsimp only; omega)).trans (Cert.KernelIdeal.Flash.score_real q k hq hk i0 i3 _ i4)⟩
  obtain ⟨M, hM⟩ := v9_real q k h6 (ix4 b ⟨l.val / 256, by omega⟩ ⟨l.val / 64 % 4, by omega⟩ n)
  rw [v21_apply]
  refine Eq.trans ?_ (weighted_of_shift (Cert.KernelIdeal.Flash.scores q k b n l)
    (Cert.KernelIdeal.Flash.values v b l) (n := 8448) (by decide) M)
  rw [← Fin.sum_univ_eq_sum_range (fun j => Cert.KernelIdeal.Flash.values v b l j
    * Ideal.div (Ideal.exp ((Cert.KernelIdeal.Flash.scores q k b n l j : EReal) - M))
      (∑ i ∈ Finset.range 8448, Ideal.exp ((Cert.KernelIdeal.Flash.scores q k b n l i : EReal) - M))) 8448]
  rw [← Fin.sum_univ_eq_sum_range
    (fun j => Ideal.exp ((Cert.KernelIdeal.Flash.scores q k b n l j : EReal) - M)) 8448]
  refine Finset.sum_congr rfl fun x _ => ?_
  have hsum : (∑ z : Fin 8448, Ideal.exp (val_main_v6 (F := Ideal) q k
        (ix5 b ⟨l.val / 256, by omega⟩ ⟨l.val / 64 % 4, by omega⟩ n z) - (M : EReal)))
      = ∑ z : Fin 8448, Ideal.exp ((Cert.KernelIdeal.Flash.scores q k b n l z.val : EReal) - M) :=
    Finset.sum_congr rfl fun z _ => by rw [hs _ _ z rfl rfl]
  rw [v17_apply, hM, hsum, Cert.KernelIdeal.Flash.values_apply v b l x, hs _ _ x rfl rfl]

end Cert.ReferenceIdeal.Flash

end
-- ==== Proof.Flash.lean ====
module

public import proofs.«01_k».proof.Defs
public import proofs.«01_k».proof.Proof.FlashPre
public import proofs.«01_k».proof.Proof.FlashRef
public import proofs.«01_k».proof.Proof.Gen.Kernel.Frame

/-! # The claims about the attention call -/

@[expose] public section

set_option maxRecDepth 16384

noncomputable section

namespace Cert.Proof

open Idealize.ShloMosaic Idealize.SL.Sem

/-- A program without semaphores ends with every counter at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread _ _).loc Cert.ReferenceIdeal.main_arg0) = m ((c.tc : Thread _ _).loc Cert.ReferenceIdeal.main_arg0)
        ∧ r.2.mem ((c.tc : Thread _ _).loc Cert.ReferenceIdeal.main_arg1) = m ((c.tc : Thread _ _).loc Cert.ReferenceIdeal.main_arg1)
        ∧ r.2.mem ((c.tc : Thread _ _).loc Cert.ReferenceIdeal.main_arg2) = m ((c.tc : Thread _ _).loc Cert.ReferenceIdeal.main_arg2))
        ∧ r.2.sem = fun _ => 0) :=
  (θ_run _ _ _).mono (fun r h => ⟨fun c => (h c).2, sem_eq_zero_of_no_sems (by decide) _⟩)
    (Cert.ReferenceIdeal.Value.run (F := Ideal) m g)

/-- From equal arguments with finite queries and keys the kernel and the reference leave the same result. -/
theorem algebraic : Cert.algebraic_KernelIdeal_ReferenceIdeal_pre_finite_scores
    (hKernelIdeal := Cert.KernelIdeal.Gen.facts) (hReferenceIdeal := Cert.ReferenceIdeal.Gen.facts)
    (hPre_finite_scores := Cert.Pre_finite_scores.facts) := by
  intro m g m' g' hpre hargs
  have hreal := fun c => Cert.Pre_finite_scores.real _ _ _ (hpre c)
  refine ⟨fun c => (Cert.KernelIdeal.Gen.dats m 0 c).arrAt 3 Cert.KernelIdeal.cfg0.N,
    Cert.KernelIdeal.Value.run_blocks (F := Ideal) m g, ?_⟩
  refine (θ_run (Cert.ReferenceIdeal.defs (F := Ideal)) _ _).mono (fun r h c => ?_)
    (Cert.ReferenceIdeal.Value.run (F := Ideal) m' g')
  obtain ⟨hv, h0, h1, h2⟩ := h c
  refine ⟨(hv.trans (Cert.ReferenceIdeal.Read.val_main_v21_eq _ _ _)).trans ?_, h0, h1, h2⟩
  rw [(hargs c).1, (hargs c).2.1, (hargs c).2.2]
  refine Eq.trans ?_ (Cert.KernelIdeal.Flash.final m c (hreal c).1 (hreal c).2).symm
  funext y
  exact (congrArg _ (show y = ix3 (y 0) (y 1) (y 2) by blk_ext)).trans
    (Cert.ReferenceIdeal.Flash.result _ _ _ (hreal c).1 (hreal c).2 (y 0) (y 1) (y 2))

end Cert.Proof

end
-- ==== Proof.Proj2.lean ====
module

public import proofs.«01_k».proof.Proof.Gen.Kernel2Ideal.Value
public import proofs.«01_k».proof.Proof.Gen.Reference2Ideal.Read
public import Idealize.ShloMosaic.Lib.Pipeline.ValueKit
public import Idealize.ShloMosaic.Lib.Pointwise

/-! # The product that makes the two directions' gates -/

@[expose] public section

set_option maxRecDepth 16384

noncomputable section

namespace Cert.Kernel2Ideal.Proj

open Cert.Kernel2Ideal Cert.Kernel2Ideal.Gen Idealize.ShloMosaic Idealize.ShloMosaic.TcCoe Idealize.SL.Sem
open Idealize.ShloMosaic.Pipeline (Dat)
open scoped BigOperators

variable (m : (ℓ : Loc nD τ sig) → Buf (Elt Ideal) ℓ)

/-- The blocks each grid point works on: rows by the inner axis, columns by the outer one. -/
theorem idx : ∀ t : Fin cfg0.N,
    win0_0.index t = ![t.val % 66, 0] ∧ win0_1.index t = ![0, t.val / 66] ∧ win0_2.index t = ![t.val % 66, t.val / 66] :=
  (by decide +kernel : ∀ t : Fin grid0.N, _)

/-- A grid point's product at one index is a sum over the 1024 channels. -/
theorem pay_apply (x : FVec Ideal S512x1024 .bf16) (w : FVec Ideal S1024x1024 .bf16) (y : S512x1024.Idx) :
    k0_pay1 (F := Ideal) x w y = ∑ k : Fin 1024, ((x (ValueIdx.ix2 (y 0) k) * w (ValueIdx.ix2 k (y 1)) : EReal)) := by
  idx_vars y
  pointwise [k0_pay1]
  rfl

/-- The row and the column of a matrix element, back from its place in memory. -/
theorem row_col (k x : ℕ) (hk : k < 1024) (hx : x < 7232) :
    k = (k * 7232 + x) / 7232 % 1024 ∧ x = (k * 7232 + x) % 7232 := by
  have h : (k * 7232 + x) / 7232 = k := by omega
  rw [h]
  omega

/-- The reference's product at one index is the sum over the same channels. -/
theorem ref_apply (x0 : (⟨S4x8448x1024, .bf16⟩ : BufTy).Contents (Elt Ideal))
    (x1 : (⟨S1x1024x7232, .f32⟩ : BufTy).Contents (Elt Ideal)) (i : S33792x4096.Idx) :
    Cert.Reference2Ideal.Read.val_main_v5 (F := Ideal) x0 x1 i
      = ∑ k : Fin 1024,
          Cert.Reference2Ideal.Read.val_main_v0 (F := Ideal) x0 (Cert.Reference2Ideal.Read.lidx_main_v3 (Cert.Reference2Ideal.Read.idx_main_v4 i) k)
            * Cert.Reference2Ideal.Read.val_main_v2 (F := Ideal) x1 (Cert.Reference2Ideal.Read.ridx_main_v3 (Cert.Reference2Ideal.Read.idx_main_v4 i) k) := by
  rw [Cert.Reference2Ideal.Read.val_main_v5_apply, Cert.Reference2Ideal.Read.val_main_v4_apply]
  exact Cert.Reference2Ideal.Read.val_main_v3_apply x0 x1 _

/-- What a grid point stores is the reference's product at the place of the block. -/
theorem point (c : Dev nD) (t : Fin cfg0.N) (y) :
    k0_pay1 (iblk m c 0 t) (iblk m c 1 t) y
      = Cert.Reference2Ideal.Read.val_main_v5 (F := Ideal) (m ((c : Thread nD τ).loc main_arg0))
          (m ((c : Thread nD τ).loc main_arg1)) (((cfg0.win 2).blk t).view.emb y) := by
  rw [pay_apply]
  refine Eq.trans ?_ (ref_apply _ _ _).symm
  refine Finset.sum_congr rfl fun k _ => ?_
  rw [Cert.Reference2Ideal.Read.val_main_v0_apply, Cert.Reference2Ideal.Read.val_main_v2_apply]
  blk_point [iblk, V, idx t]
  · show (t.val % 66 * 512 + (y 0).val) / 8448 = ((t.val % 66 * 512 + (y 0).val) * 1024 + k.val) / 8650752
    omega
  · show (t.val % 66 * 512 + (y 0).val) % 8448 = ((t.val % 66 * 512 + (y 0).val) * 1024 + k.val) / 1024 % 8448
    omega
  · show k.val = ((t.val % 66 * 512 + (y 0).val) * 1024 + k.val) % 1024
    omega
  · exact (row_col k.val ((t.val / 66 * 1024 + (y 1).val)) k.isLt (by omega)).1
  · exact (row_col k.val ((t.val / 66 * 1024 + (y 1).val)) k.isLt (by omega)).2

/-- The result array after the run is the reference's. -/
theorem final (c : Dev nD) :
    (dats m 0 c).arrAt 2 cfg0.N
      = Cert.Reference2Ideal.Read.val_main_v5 (F := Ideal) (m ((c : Thread nD τ).loc main_arg0))
          (m ((c : Thread nD τ).loc main_arg1)) := by
  refine (dats m 0 c).arrAt_eq_of_covers 2 _ (by decide +kernel) fun t _ y => ?_
  blk_simp
  rw [after0_2]
  frame_out
  exact point m c t y

end Cert.Kernel2Ideal.Proj

end
-- ==== Proof.Claims2.lean ====
module

public import proofs.«01_k».proof.Defs
public import proofs.«01_k».proof.Proof.Proj2
public import proofs.«01_k».proof.Proof.Gen.Kernel2.Frame
public import proofs.«01_k».proof.Proof.Gen.Reference2Ideal.Run

/-! # The claims about the gates' product -/

@[expose] public section

set_option maxRecDepth 16384

noncomputable section

namespace Cert.Proof

open Idealize.ShloMosaic Idealize.SL.Sem

/-- The reference keeps its arguments and, being without semaphores, ends with every counter at zero. -/
theorem reference2_frame (m : (ℓ : Loc Cert.Reference2Ideal.nD Cert.Reference2Ideal.τ Cert.Reference2Ideal.sig) → Buf (Elt Ideal) ℓ)
    (g : Dev Cert.Reference2Ideal.nD → PrngReg) :
    θ_run (Cert.Reference2Ideal.defs (F := Ideal)) (onTc (τ := Cert.Reference2Ideal.τ) (Cert.Reference2Ideal.main (F := Ideal)))
      ⟨m, fun _ => 0, g⟩ (fun r => (∀ c : Dev Cert.Reference2Ideal.nD,
        r.2.mem ((c.tc : Thread _ _).loc Cert.Reference2Ideal.main_arg0) = m ((c.tc : Thread _ _).loc Cert.Reference2Ideal.main_arg0)
        ∧ r.2.mem ((c.tc : Thread _ _).loc Cert.Reference2Ideal.main_arg1) = m ((c.tc : Thread _ _).loc Cert.Reference2Ideal.main_arg1))
        ∧ r.2.sem = fun _ => 0) :=
  (θ_run _ _ _).mono (fun r h => ⟨fun c => (h c).2, sem_eq_zero_of_no_sems (by decide) _⟩)
    (Cert.Reference2Ideal.Value.run (F := Ideal) m g)

/-- From equal arguments the kernel and the reference leave the same result. -/
theorem algebraic2 : Cert.algebraic_Kernel2Ideal_Reference2Ideal
    (hKernel2Ideal := Cert.Kernel2Ideal.Gen.facts) (hReference2Ideal := Cert.Reference2Ideal.Gen.facts) := by
  intro m g m' g' hpre hargs
  refine ⟨fun c => (Cert.Kernel2Ideal.Gen.dats m 0 c).arrAt 2 Cert.Kernel2Ideal.cfg0.N,
    Cert.Kernel2Ideal.Value.run_blocks (F := Ideal) m g, ?_⟩
  refine (θ_run (Cert.Reference2Ideal.defs (F := Ideal)) _ _).mono (fun r h c => ?_) (Cert.Reference2Ideal.Value.run (F := Ideal) m' g')
  obtain ⟨hv, h0, h1⟩ := h c
  refine ⟨(hv.trans (Cert.Reference2Ideal.Read.val_main_v5_eq _ _)).trans ?_, h0, h1⟩
  rw [(hargs c).1, (hargs c).2]
  exact (Cert.Kernel2Ideal.Proj.final m c).symm

end Cert.Proof

end
-- ==== Proof.Proj3.lean ====
module

public import proofs.«01_k».proof.Proof.Gen.Kernel3Ideal.Value
public import proofs.«01_k».proof.Proof.Gen.Reference3Ideal.Read
public import Idealize.ShloMosaic.Lib.Pipeline.ValueKit
public import Idealize.ShloMosaic.Lib.Pointwise

/-! # The product that makes the scan's inputs -/

@[expose] public section

set_option maxRecDepth 16384

noncomputable section

namespace Cert.Kernel3Ideal.Proj

open Cert.Kernel3Ideal Cert.Kernel3Ideal.Gen Idealize.ShloMosaic Idealize.ShloMosaic.TcCoe Idealize.SL.Sem
open Idealize.ShloMosaic.Pipeline (Dat)
open scoped BigOperators

variable (m : (ℓ : Loc nD τ sig) → Buf (Elt Ideal) ℓ)

/-- The blocks each grid point works on: rows by the inner axis, columns by the outer one. -/
theorem idx : ∀ t : Fin cfg0.N,
    win0_0.index t = ![t.val % 66, 0] ∧ win0_1.index t = ![0, t.val / 66] ∧ win0_2.index t = ![t.val % 66, t.val / 66] :=
  (by decide +kernel : ∀ t : Fin grid0.N, _)

/-- A grid point's product at one index is a sum over the 1024 channels. -/
theorem pay_apply (x : FVec Ideal S512x1024 .bf16) (w : FVec Ideal S1024x1024 .bf16) (y : S512x1024.Idx) :
    k0_pay1 (F := Ideal) x w y = ∑ k : Fin 1024, ((x (ValueIdx.ix2 (y 0) k) * w (ValueIdx.ix2 k (y 1)) : EReal)) := by
  idx_vars y
  pointwise [k0_pay1]
  rfl

/-- The row and the column of a matrix element, back from its place in memory. -/
theorem row_col (k x : ℕ) (hk : k < 1024) (hx : x < 7232) :
    k = (k * 7232 + x) / 7232 % 1024 ∧ x = (k * 7232 + x) % 7232 := by
  have h : (k * 7232 + x) / 7232 = k := by omega
  rw [h]
  omega

/-- The reference's product at one index is the sum over the same channels. -/
theorem ref_apply (x0 : (⟨S4x8448x1024, .bf16⟩ : BufTy).Contents (Elt Ideal))
    (x1 : (⟨S1x1024x7232, .f32⟩ : BufTy).Contents (Elt Ideal)) (i : S33792x3072.Idx) :
    Cert.Reference3Ideal.Read.val_main_v4 (F := Ideal) x0 x1 i
      = ∑ k : Fin 1024,
          Cert.Reference3Ideal.Read.val_main_v0 (F := Ideal) x0 (Cert.Reference3Ideal.Read.lidx_main_v3 (Cert.Reference3Ideal.Read.idx_main_v4 i) k)
            * Cert.Reference3Ideal.Read.val_main_v2 (F := Ideal) x1 (Cert.Reference3Ideal.Read.ridx_main_v3 (Cert.Reference3Ideal.Read.idx_main_v4 i) k) := by
  rw [Cert.Reference3Ideal.Read.val_main_v4_apply]
  exact Cert.Reference3Ideal.Read.val_main_v3_apply x0 x1 _

/-- What a grid point stores is the reference's product at the place of the block. -/
theorem point (c : Dev nD) (t : Fin cfg0.N) (y) :
    k0_pay1 (iblk m c 0 t) (iblk m c 1 t) y
      = Cert.Reference3Ideal.Read.val_main_v4 (F := Ideal) (m ((c : Thread nD τ).loc main_arg0))
          (m ((c : Thread nD τ).loc main_arg1)) (((cfg0.win 2).blk t).view.emb y) := by
  rw [pay_apply]
  refine Eq.trans ?_ (ref_apply _ _ _).symm
  refine Finset.sum_congr rfl fun k _ => ?_
  rw [Cert.Reference3Ideal.Read.val_main_v0_apply, Cert.Reference3Ideal.Read.val_main_v2_apply]
  blk_point [iblk, V, idx t]
  · show (t.val % 66 * 512 + (y 0).val) / 8448 = ((t.val % 66 * 512 + (y 0).val) * 1024 + k.val) / 8650752
    omega
  · show (t.val % 66 * 512 + (y 0).val) % 8448 = ((t.val % 66 * 512 + (y 0).val) * 1024 + k.val) / 1024 % 8448
    omega
  · show k.val = ((t.val % 66 * 512 + (y 0).val) * 1024 + k.val) % 1024
    omega
  · exact (row_col k.val (4096 + (t.val / 66 * 1024 + (y 1).val)) k.isLt (by omega)).1
  · exact (row_col k.val (4096 + (t.val / 66 * 1024 + (y 1).val)) k.isLt (by omega)).2

/-- The result array after the run is the reference's. -/
theorem final (c : Dev nD) :
    (dats m 0 c).arrAt 2 cfg0.N
      = Cert.Reference3Ideal.Read.val_main_v4 (F := Ideal) (m ((c : Thread nD τ).loc main_arg0))
          (m ((c : Thread nD τ).loc main_arg1)) := by
  refine (dats m 0 c).arrAt_eq_of_covers 2 _ (by decide +kernel) fun t _ y => ?_
  blk_simp
  rw [after0_2]
  frame_out
  exact point m c t y

end Cert.Kernel3Ideal.Proj

end
-- ==== Proof.Claims3.lean ====
module

public import proofs.«01_k».proof.Defs
public import proofs.«01_k».proof.Proof.Proj3
public import proofs.«01_k».proof.Proof.Gen.Kernel3.Frame
public import proofs.«01_k».proof.Proof.Gen.Reference3Ideal.Run

/-! # The claims about the product for the scan's inputs -/

@[expose] public section

set_option maxRecDepth 16384

noncomputable section

namespace Cert.Proof

open Idealize.ShloMosaic Idealize.SL.Sem

/-- The reference keeps its arguments and, being without semaphores, ends with every counter at zero. -/
theorem reference3_frame (m : (ℓ : Loc Cert.Reference3Ideal.nD Cert.Reference3Ideal.τ Cert.Reference3Ideal.sig) → Buf (Elt Ideal) ℓ)
    (g : Dev Cert.Reference3Ideal.nD → PrngReg) :
    θ_run (Cert.Reference3Ideal.defs (F := Ideal)) (onTc (τ := Cert.Reference3Ideal.τ) (Cert.Reference3Ideal.main (F := Ideal)))
      ⟨m, fun _ => 0, g⟩ (fun r => (∀ c : Dev Cert.Reference3Ideal.nD,
        r.2.mem ((c.tc : Thread _ _).loc Cert.Reference3Ideal.main_arg0) = m ((c.tc : Thread _ _).loc Cert.Reference3Ideal.main_arg0)
        ∧ r.2.mem ((c.tc : Thread _ _).loc Cert.Reference3Ideal.main_arg1) = m ((c.tc : Thread _ _).loc Cert.Reference3Ideal.main_arg1))
        ∧ r.2.sem = fun _ => 0) :=
  (θ_run _ _ _).mono (fun r h => ⟨fun c => (h c).2, sem_eq_zero_of_no_sems (by decide) _⟩)
    (Cert.Reference3Ideal.Value.run (F := Ideal) m g)

/-- From equal arguments the kernel and the reference leave the same result. -/
theorem algebraic3 : Cert.algebraic_Kernel3Ideal_Reference3Ideal
    (hKernel3Ideal := Cert.Kernel3Ideal.Gen.facts) (hReference3Ideal := Cert.Reference3Ideal.Gen.facts) := by
  intro m g m' g' hpre hargs
  refine ⟨fun c => (Cert.Kernel3Ideal.Gen.dats m 0 c).arrAt 2 Cert.Kernel3Ideal.cfg0.N,
    Cert.Kernel3Ideal.Value.run_blocks (F := Ideal) m g, ?_⟩
  refine (θ_run (Cert.Reference3Ideal.defs (F := Ideal)) _ _).mono (fun r h c => ?_) (Cert.Reference3Ideal.Value.run (F := Ideal) m' g')
  obtain ⟨hv, h0, h1⟩ := h c
  refine ⟨(hv.trans (Cert.Reference3Ideal.Read.val_main_v4_eq _ _)).trans ?_, h0, h1⟩
  rw [(hargs c).1, (hargs c).2]
  exact (Cert.Kernel3Ideal.Proj.final m c).symm

end Cert.Proof

end
-- ==== Proof.AttnOut.lean ====
module

public import proofs.«01_k».proof.Proof.Gen.Kernel4Ideal.Value
public import proofs.«01_k».proof.Proof.Gen.Reference4Ideal.Read
public import Idealize.ShloMosaic.Lib.Pipeline.ValueKit
public import Idealize.ShloMosaic.Lib.Pointwise

/-! # The output projection of the attention and its gated residual -/

@[expose] public section

set_option maxRecDepth 16384

noncomputable section

namespace Cert.Kernel4Ideal.AttnOut

open Cert.Kernel4Ideal Cert.Kernel4Ideal.Gen Idealize.ShloMosaic Idealize.ShloMosaic.TcCoe Idealize.SL.Sem
open Cert.Reference4Ideal.Read (val_main_v0 val_main_v1 val_main_v2 val_main_v3 val_main_v4 val_main_v5 val_main_v6)
open Idealize.ShloMosaic.Pipeline (Dat)

variable (m : (ℓ : Loc nD τ sig) → Buf (Elt Ideal) ℓ)

/-- The blocks each grid point works on; the residual's latent tokens follow one block of context tokens. -/
theorem idx : ∀ t : Fin cfg0.N,
    win0_0.index t = ![t.val / 32, t.val % 32, 0] ∧ win0_1.index t = ![0, 0]
    ∧ win0_2.index t = ![t.val / 32, t.val % 32 + 1, 0] ∧ win0_3.index t = ![t.val / 32, 0, 0]
    ∧ win0_4.index t = ![t.val / 32, t.val % 32, 0] :=
  (by decide +kernel : ∀ t : Fin grid0.N, _)

/-- The result array after the run is the reference's. -/
theorem final (c : Dev nD) :
    (dats m 0 c).arrAt 4 cfg0.N
      = val_main_v6 (F := Ideal) (m ((c : Thread nD τ).loc main_arg0)) (m ((c : Thread nD τ).loc main_arg1))
          (m ((c : Thread nD τ).loc main_arg2)) (m ((c : Thread nD τ).loc main_arg3)) := by
  refine (dats m 0 c).arrAt_eq_of_covers 4 _ (by decide +kernel) fun t _ y => ?_
  blk_simp
  rw [after0_4]
  frame_out
  pointwise [k0_pay1, val_main_v0, val_main_v1, val_main_v2, val_main_v3, val_main_v4, val_main_v5, val_main_v6]
  blk_point [iblk, V, idx t]

end Cert.Kernel4Ideal.AttnOut

end
-- ==== Proof.Claims4.lean ====
module

public import proofs.«01_k».proof.Defs
public import proofs.«01_k».proof.Proof.AttnOut
public import proofs.«01_k».proof.Proof.Gen.Kernel4.Frame
public import proofs.«01_k».proof.Proof.Gen.Reference4Ideal.Run

/-! # The claims about the attention's output projection -/

@[expose] public section

set_option maxRecDepth 16384

noncomputable section

namespace Cert.Proof

open Idealize.ShloMosaic Idealize.SL.Sem

/-- The reference keeps its arguments and, being without semaphores, ends with every counter at zero. -/
theorem reference4_frame (m : (ℓ : Loc Cert.Reference4Ideal.nD Cert.Reference4Ideal.τ Cert.Reference4Ideal.sig) → Buf (Elt Ideal) ℓ)
    (g : Dev Cert.Reference4Ideal.nD → PrngReg) :
    θ_run (Cert.Reference4Ideal.defs (F := Ideal)) (onTc (τ := Cert.Reference4Ideal.τ) (Cert.Reference4Ideal.main (F := Ideal)))
      ⟨m, fun _ => 0, g⟩ (fun r => (∀ c : Dev Cert.Reference4Ideal.nD,
        r.2.mem ((c.tc : Thread _ _).loc Cert.Reference4Ideal.main_arg0) = m ((c.tc : Thread _ _).loc Cert.Reference4Ideal.main_arg0)
        ∧ r.2.mem ((c.tc : Thread _ _).loc Cert.Reference4Ideal.main_arg1) = m ((c.tc : Thread _ _).loc Cert.Reference4Ideal.main_arg1)
        ∧ r.2.mem ((c.tc : Thread _ _).loc Cert.Reference4Ideal.main_arg2) = m ((c.tc : Thread _ _).loc Cert.Reference4Ideal.main_arg2)
        ∧ r.2.mem ((c.tc : Thread _ _).loc Cert.Reference4Ideal.main_arg3) = m ((c.tc : Thread _ _).loc Cert.Reference4Ideal.main_arg3))
        ∧ r.2.sem = fun _ => 0) :=
  (θ_run _ _ _).mono (fun r h => ⟨fun c => (h c).2, sem_eq_zero_of_no_sems (by decide) _⟩)
    (Cert.Reference4Ideal.Value.run (F := Ideal) m g)

/-- From equal arguments the kernel and the reference leave the same result. -/
theorem algebraic4 : Cert.algebraic_Kernel4Ideal_Reference4Ideal
    (hKernel4Ideal := Cert.Kernel4Ideal.Gen.facts) (hReference4Ideal := Cert.Reference4Ideal.Gen.facts) := by
  intro m g m' g' hpre hargs
  refine ⟨fun c => (Cert.Kernel4Ideal.Gen.dats m 0 c).arrAt 4 Cert.Kernel4Ideal.cfg0.N,
    Cert.Kernel4Ideal.Value.run_blocks (F := Ideal) m g, ?_⟩
  refine (θ_run (Cert.Reference4Ideal.defs (F := Ideal)) _ _).mono (fun r h c => ?_) (Cert.Reference4Ideal.Value.run (F := Ideal) m' g')
  obtain ⟨hv, h0, h1, h2, h3⟩ := h c
  refine ⟨(hv.trans (Cert.Reference4Ideal.Read.val_main_v6_eq _ _ _ _)).trans ?_, h0, h1, h2, h3⟩
  rw [(hargs c).1, (hargs c).2.1, (hargs c).2.2.1, (hargs c).2.2.2]
  exact (Cert.Kernel4Ideal.AttnOut.final m c).symm

end Cert.Proof

end
-- ==== Proof.SsdOutNorm.lean ====
module

public import Idealize.ShloMosaic.Lib.Pointwise

/-! # A row of 2048 channels normed in four groups of 512 -/

@[expose] public section

set_option maxRecDepth 16384

noncomputable section

namespace Cert.Kernel5Ideal.SsdOut

open Idealize.ShloMosaic
open scoped BigOperators

/-- Channel `k` of a row `Y`, divided by the root of the mean square of its group of 512 channels, times its gain. -/
def nrm (Y : Fin 2048 → EReal) (g : EReal) (k : Fin 2048) : EReal :=
  Y k * Ideal.rsqrt (Ideal.div
      (∑ j : Fin 512, Y ⟨k.val / 512 * 512 + j.val, by omega⟩ * Y ⟨k.val / 512 * 512 + j.val, by omega⟩)
      (Ideal.ofBits FTy.f32 1140850688#32) + Ideal.ofBits FTy.f32 897988541#32) * g

/-- The same value, with the places of the channel and of its group given by other terms. -/
theorem eq_nrm (Y : Fin 2048 → EReal) (g g' : EReal) (k k' : Fin 2048) (q : Fin 512 → Fin 2048)
    (hk : k'.val = k.val) (hq : ∀ j, (q j).val = k.val / 512 * 512 + j.val) (hg : g' = g) :
    Y k' * Ideal.rsqrt (Ideal.div (∑ j : Fin 512, Y (q j) * Y (q j))
      (Ideal.ofBits FTy.f32 1140850688#32) + Ideal.ofBits FTy.f32 897988541#32) * g' = nrm Y g k := by
  have hk' : k' = k := Fin.ext hk
  have hq' : ∀ j, q j = ⟨k.val / 512 * 512 + j.val, by omega⟩ := fun j => Fin.ext (hq j)
  subst hk' hg
  simp only [nrm, hq']

end Cert.Kernel5Ideal.SsdOut

end
-- ==== Proof.SsdOutPay.lean ====
module

public import proofs.«01_k».proof.Proof.Gen.Kernel5Ideal.Value
public import proofs.«01_k».proof.Proof.SsdOutNorm
public import Idealize.ShloMosaic.Lib.Pipeline.ValueKit
public import Idealize.ShloMosaic.Lib.Pointwise

/-! # What a grid point of the mixer's end stores -/

@[expose] public section

set_option maxRecDepth 16384

noncomputable section

namespace Cert.Kernel5Ideal.SsdOut

open Cert.Kernel5Ideal Cert.Kernel5Ideal.Gen Idealize.ShloMosaic Idealize.ShloMosaic.TcCoe
open scoped BigOperators

variable (v8 v25 v33 v34 : FVec Ideal S256x2048 .f32) (x6 : Vec Ideal S1x2048 .f32)

/-- What is stored at one index: the residual plus the gate times the product of the normed row with the weights. -/
theorem pay_apply (v109 : Vec Ideal S2048x1024 .bf16) (v112 : Vec Ideal S1x256x1024 .f32)
    (v114 : Vec Ideal S1x1x1024 .f32) (y : S1x256x1024.Idx) :
    k0_pay1 (k0_pay13 (F := Ideal) (k0_pay7 v8 v25 v33 v34)
        (k0_pay8 v8 v25 v33 v34 (View.ld x6 (Rect.unit ![0, 0] ![1, 512] inb_S1x2048_S1x512_0_0)))
        (k0_pay9 v8 v25 v33 v34 (View.ld x6 (Rect.unit ![0, 512] ![1, 512] inb_S1x2048_S1x512_0_512)))
        (k0_pay10 v8 v25 v33 v34)
        (k0_pay11 (View.ld x6 (Rect.unit ![0, 1024] ![1, 512] inb_S1x2048_S1x512_0_1024)))
        (k0_pay12 v8 v25 v33 v34)
        (View.ld x6 (Rect.unit ![0, 1536] ![1, 512] inb_S1x2048_S1x512_0_1536)) v109 v112 v114) y
      = v112 (ValueIdx.ix3 0 (y 1) (y 2)) + v114 (ValueIdx.ix3 0 0 (y 2)) * ∑ k : Fin 2048,
          nrm (fun k => k0_pay7 v8 v25 v33 v34 (ValueIdx.ix2 (y 1) k)) (x6 (ValueIdx.ix2 0 k)) k
            * v109 (ValueIdx.ix2 k (y 2)) := by
  unfold k0_pay13 k0_pay12 k0_pay11 k0_pay10 k0_pay9 k0_pay8
  generalize k0_pay7 v8 v25 v33 v34 = Y
  idx_vars y
  pointwise [k0_pay1]
  refine congrArg₂ (fun a b : EReal => a + b) rfl (congrArg₂ (fun a b : EReal => a * b) rfl
    (Finset.sum_congr rfl fun k _ => congrArg₂ (fun a b : EReal => a * b) ?_ rfl))
  by_cases h0 : k.val < 512
  · rw [dif_pos h0]
    exact eq_nrm (fun k => Y (ValueIdx.ix2 y1 k)) _ _ k k _ rfl
      (fun i => by show i.val = k.val / 512 * 512 + i.val; omega)
      rfl
  rw [dif_neg h0]
  by_cases h1 : k.val - 512 < 512
  · rw [dif_pos h1]
    exact eq_nrm (fun k => Y (ValueIdx.ix2 y1 k)) _ _ k _ _ (by show 512 + (k.val - 512) = k.val; omega)
      (fun i => by show 512 + i.val = k.val / 512 * 512 + i.val; omega)
      (congrArg (fun j => x6 (ValueIdx.ix2 0 j)) (Fin.ext (by show 512 + (k.val - 512) = k.val; omega)))
  rw [dif_neg h1]
  by_cases h2 : k.val - 512 - 512 < 512
  · rw [dif_pos h2]
    exact eq_nrm (fun k => Y (ValueIdx.ix2 y1 k)) _ _ k _ _ (by show 1024 + (k.val - 512 - 512) = k.val; omega)
      (fun i => by show 1024 + i.val = k.val / 512 * 512 + i.val; omega)
      (congrArg (fun j => x6 (ValueIdx.ix2 0 j)) (Fin.ext (by show 1024 + (k.val - 512 - 512) = k.val; omega)))
  rw [dif_neg h2]
  exact eq_nrm (fun k => Y (ValueIdx.ix2 y1 k)) _ _ k _ _ (by show 1536 + (k.val - 512 - 512 - 512) = k.val; omega)
    (fun i => by show 1536 + i.val = k.val / 512 * 512 + i.val; omega)
    (congrArg (fun j => x6 (ValueIdx.ix2 0 j)) (Fin.ext (by show 1536 + (k.val - 512 - 512 - 512) = k.val; omega)))

end Cert.Kernel5Ideal.SsdOut

end
-- ==== Proof.SsdOutRef.lean ====
module

public import proofs.«01_k».proof.Proof.Gen.Reference5Ideal.Read
public import proofs.«01_k».proof.Proof.SsdOutNorm
public import Idealize.ShloMosaic.Lib.Pointwise

/-! # The reference's end of the mixer, at one index -/

@[expose] public section

set_option maxRecDepth 16384

noncomputable section

namespace Cert.Kernel5Ideal.SsdOut

open Cert.Reference5Ideal Cert.Reference5Ideal.Gen Cert.Reference5Ideal.Read Idealize.ShloMosaic
open scoped BigOperators

variable (x0 x1 : (⟨S4x8448x2048, .bf16⟩ : BufTy).Contents (Elt Ideal)) (x2 : (⟨S4x8448x4096, .bf16⟩ : BufTy).Contents (Elt Ideal))
    (x3 : (⟨S4x8448x3072, .bf16⟩ : BufTy).Contents (Elt Ideal)) (x4 : (⟨S2x32, .f32⟩ : BufTy).Contents (Elt Ideal))
    (x5 : (⟨S2048, .f32⟩ : BufTy).Contents (Elt Ideal)) (x6 : (⟨S2048x1024, .f32⟩ : BufTy).Contents (Elt Ideal))
    (x7 : (⟨S4x8448x1024, .f32⟩ : BufTy).Contents (Elt Ideal)) (x8 : (⟨S8x6x1024, .f32⟩ : BufTy).Contents (Elt Ideal))

/-- The reference's normed row. -/
theorem v46_apply (b : Fin 4) (s : Fin 8448) (k : Fin 2048) :
    val_main_v46 (F := Ideal) x0 x1 x2 x3 x4 x5 (ValueIdx.ix3 b s k)
      = nrm (fun k => val_main_v30 (F := Ideal) x0 x1 x2 x3 x4 (ValueIdx.ix3 b s k)) (x5 (ValueIdx.ix1 k)) k := by
  unfold val_main_v46 val_main_v45 val_main_v41 val_main_v40 val_main_v39 val_main_v38 val_main_v36 val_main_v34
    val_main_v33 val_main_v32 val_main_v31
  generalize val_main_v30 (F := Ideal) x0 x1 x2 x3 x4 = Y
  pointwise [val_main_v44, val_main_v43, val_main_v42, val_main_v37, val_main_v35, val_main_cst, val_main_cst_0, val_main_cst_1]
  exact eq_nrm (fun k => Y (ValueIdx.ix3 b s k)) _ _ k k _ rfl (fun j => rfl) rfl

/-- The reference's row before the norm. -/
theorem v30_apply (b : Fin 4) (s : Fin 8448) (k : Fin 2048) :
    val_main_v30 (F := Ideal) x0 x1 x2 x3 x4 (ValueIdx.ix3 b s k)
      = (x0 (ValueIdx.ix3 b s k)
          + x4 (ValueIdx.ix2 0 ⟨k.val / 64, by omega⟩) * x3 (ValueIdx.ix3 b s ⟨k.val, by omega⟩))
        * (x2 (ValueIdx.ix3 b s ⟨k.val, by omega⟩)
          * Ideal.div 1 (1 + Ideal.exp (-x2 (ValueIdx.ix3 b s ⟨k.val, by omega⟩))))
        + (x1 (ValueIdx.ix3 b s k)
          + x4 (ValueIdx.ix2 1 ⟨k.val / 64, by omega⟩) * x3 (ValueIdx.ix3 b s ⟨k.val, by omega⟩))
        * (x2 (ValueIdx.ix3 b s ⟨2048 + k.val, by omega⟩)
          * Ideal.div 1 (1 + Ideal.exp (-x2 (ValueIdx.ix3 b s ⟨2048 + k.val, by omega⟩)))) := by
  pointwise [val_main_v30, val_main_v29, val_main_v28, val_main_v27, val_main_v26, val_main_v25, val_main_v24,
    val_main_v23, val_main_v22, val_main_v21, val_main_v20, val_main_v19, val_main_v18, val_main_v17, val_main_v16,
    val_main_v15, val_main_v14, val_main_v13, val_main_v12, val_main_v11, val_main_v10, val_main_v9, val_main_v8,
    val_main_v7, val_main_v6, val_main_v5, val_main_v4, val_main_v3, val_main_v2, val_main_v1, val_main_v0,
    val_main_call0_v0, val_main_call0_v1, val_main_call0_v2, val_main_call0_v3, val_main_call0_v4, val_main_call0_v5,
    val_main_call0_cst, val_main_call0_cst_0,
    val_main_call1_v0, val_main_call1_v1, val_main_call1_v2, val_main_call1_v3, val_main_call1_v4, val_main_call1_v5,
    val_main_call1_cst, val_main_call1_cst_0]
  rfl

/-- The reference's result. -/
theorem v54_apply (b : Fin 4) (s : Fin 8448) (n : Fin 1024) :
    val_main_v54 (F := Ideal) x0 x1 x2 x3 x4 x5 x6 x7 x8 (ValueIdx.ix3 b s n)
      = x7 (ValueIdx.ix3 b s n) + val_main_v52 (F := Ideal) x8 (ValueIdx.ix3 b s n) * ∑ k : Fin 2048,
          val_main_v46 (F := Ideal) x0 x1 x2 x3 x4 x5 (ValueIdx.ix3 b s k) * x6 (ValueIdx.ix2 k n) := by
  rw [val_main_v54_apply, val_main_v53_apply, val_main_v47_apply]
  have hl : ∀ k, lidx_main_v47 (ValueIdx.ix3 b s n) k = ValueIdx.ix3 b s k := fun k =>
    funext fun a => by fin_cases a <;> rfl
  have hr : ∀ k, ridx_main_v47 (ValueIdx.ix3 b s n) k = ValueIdx.ix2 k n := fun k =>
    funext fun a => by fin_cases a <;> rfl
  simp only [hl, hr]
  rfl

/-- The reference's gate. -/
theorem v52_apply (b : Fin 4) (s : Fin 8448) (n : Fin 1024) :
    val_main_v52 (F := Ideal) x8 (ValueIdx.ix3 b s n)
      = if s.val < 256 then x8 (ValueIdx.ix3 4 2 n) else x8 (ValueIdx.ix3 ⟨b.val, by omega⟩ 2 n) := by
  pointwise [val_main_v52, val_main_v51, val_main_v50, val_main_v49, val_main_v48]
  rfl

end Cert.Kernel5Ideal.SsdOut

end
-- ==== Proof.SsdOut.lean ====
module

public import proofs.«01_k».proof.Proof.SsdOutPay
public import proofs.«01_k».proof.Proof.SsdOutRef

/-! # The end of the state-space mixer: skips, gates, grouped norm, output projection, gated residual -/

@[expose] public section

set_option maxRecDepth 16384

noncomputable section

namespace Cert.Kernel5Ideal.SsdOut

open Cert.Kernel5Ideal Cert.Kernel5Ideal.Gen Idealize.ShloMosaic Idealize.ShloMosaic.TcCoe Idealize.SL.Sem
open Cert.Reference5Ideal.Read (val_main_v30 val_main_v46 val_main_v52 val_main_v54)
open Idealize.ShloMosaic.Pipeline (Dat)
open scoped BigOperators

variable (m : (ℓ : Loc nD τ sig) → Buf (Elt Ideal) ℓ)

/-- The blocks each grid point works on; the gate's row is the fifth for the block of context tokens. -/
theorem idx : ∀ t : Fin cfg0.N,
    win0_0.index t = ![t.val / 33, t.val % 33, 0] ∧ win0_1.index t = ![t.val / 33, t.val % 33, 0]
    ∧ win0_2.index t = ![t.val / 33, t.val % 33, 0] ∧ win0_3.index t = ![t.val / 33, t.val % 33, 1]
    ∧ win0_4.index t = ![t.val / 33, t.val % 33, 0] ∧ win0_5.index t = ![0, 0]
    ∧ win0_6.index t = ![0, 0] ∧ win0_7.index t = ![0, 0]
    ∧ win0_8.index t = ![t.val / 33, t.val % 33, 0]
    ∧ win0_9.index t = ![if t.val % 33 < 1 then 4 else t.val / 33, 0, 0]
    ∧ win0_10.index t = ![t.val / 33, t.val % 33, 0] :=
  (by decide +kernel : ∀ t : Fin grid0.N, _)

/-- The batch of a grid point. -/
abbrev bt (t : Fin cfg0.N) : Fin 4 := ⟨t.val / 33, by have h : t.val < 132 := t.isLt; omega⟩

/-- The token of a row of a grid point's block. -/
abbrev tok (t : Fin cfg0.N) (r : Fin 256) : Fin 8448 :=
  ⟨t.val % 33 * 256 + r.val, by have h : t.val < 132 := t.isLt; omega⟩

/-- The skip's input, read off its array. -/
theorem xs_apply (c : Dev nD) (t : Fin cfg0.N) (r : Fin 256) (k : Fin 2048) :
    X0_4 m c t (ValueIdx.ix3 0 r k)
      = m ((c : Thread nD τ).loc main_arg3) (ValueIdx.ix3 (bt t) (tok t r) ⟨k.val, by omega⟩) := by
  unfold X0_4 Pipeline.Window.fill
  rw [dif_pos (moved0_4 t _)]
  blk_point [iblk, V, idx t]

/-- The gated sum of the two directions at one row and channel is the reference's. -/
theorem row_apply (c : Dev nD) (t : Fin cfg0.N) (r : Fin 256) (k : Fin 2048) :
    k0_pay7 (F := Ideal) (k0_pay3 (iblk m c 3 t))
        (k0_pay4 (X0_4 m c t) (iblk m c 2 t) (iblk m c 0 t)
          (View.ld (iblk m c 5 t) (Rect.unit ![0, 0] ![1, 2048] inb_S2x2048_S1x2048_0_0)))
        (k0_pay5 (X0_4 m c t) (iblk m c 1 t)
          (View.ld (iblk m c 5 t) (Rect.unit ![1, 0] ![1, 2048] inb_S2x2048_S1x2048_1_0)))
        k0_pay6 (ValueIdx.ix2 r k)
      = val_main_v30 (F := Ideal) (m ((c : Thread nD τ).loc main_arg0)) (m ((c : Thread nD τ).loc main_arg1))
          (m ((c : Thread nD τ).loc main_arg2)) (m ((c : Thread nD τ).loc main_arg3))
          (m ((c : Thread nD τ).loc main_arg4)) (ValueIdx.ix3 (bt t) (tok t r) k) := by
  rw [v30_apply, ← xs_apply m c t r k]
  generalize X0_4 m c t = X
  pointwise [k0_pay7, k0_pay6, k0_pay5, k0_pay4, k0_pay3, k0_pay2]
  simp only [zero_sub]
  blk_point [iblk, V, idx t]

/-- The place of a stored element in the result. -/
theorem emb_apply (t : Fin cfg0.N) (y : S1x256x1024.Idx) :
    ((View.whole main_v4).slice (win0_10.rect t)).emb y = ValueIdx.ix3 (bt t) (tok t (y 1)) (y 2) := by
  blk_ext [idx t]

/-- What a grid point stores at one index is the reference's value at the place of the block. -/
theorem point (c : Dev nD) (t : Fin cfg0.N) (r : Fin 256) (n : Fin 1024) :
    @HAdd.hAdd EReal EReal EReal _ (iblk m c 8 t (ValueIdx.ix3 0 r n))
      (@HMul.hMul EReal EReal EReal _
        (View.ld (iblk m c 9 t) (Rect.unit ![0, 2, 0] ![1, 1, 1024] inb_S1x6x1024_S1x1x1024_0_2_0)
          (ValueIdx.ix3 0 0 n)) (∑ k : Fin 2048, @HMul.hMul EReal EReal EReal _
          (nrm (fun k => k0_pay7 (F := Ideal) (k0_pay3 (iblk m c 3 t))
            (k0_pay4 (X0_4 m c t) (iblk m c 2 t) (iblk m c 0 t)
              (View.ld (iblk m c 5 t) (Rect.unit ![0, 0] ![1, 2048] inb_S2x2048_S1x2048_0_0)))
            (k0_pay5 (X0_4 m c t) (iblk m c 1 t)
              (View.ld (iblk m c 5 t) (Rect.unit ![1, 0] ![1, 2048] inb_S2x2048_S1x2048_1_0)))
            k0_pay6 (ValueIdx.ix2 r k)) (iblk m c 6 t (ValueIdx.ix2 0 k)) k)
          (iblk m c 7 t (ValueIdx.ix2 k n))))
      = val_main_v54 (F := Ideal) (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7))
          (m ((c : Thread nD τ).loc main_arg8)) (ValueIdx.ix3 (bt t) (tok t r) n) := by
  rw [v54_apply, v52_apply]
  refine congrArg₂ (fun a b : EReal => a + b) ?_ (congrArg₂ (fun a b : EReal => a * b) ?_
    (Finset.sum_congr rfl fun k _ => congrArg₂ (fun a b : EReal => a * b) ?_ ?_))
  · blk_point [iblk, V, idx t]
  · have h : ((tok t r).val < 256) ↔ t.val % 33 < 1 := by
      have h1 := r.isLt
      show t.val % 33 * 256 + r.val < 256 ↔ _
      omega
    by_cases h0 : t.val % 33 < 1
    · rw [if_pos (h.mpr h0)]
      blk_point [iblk, V, idx t]
      rw [if_pos h0]
      rfl
    · rw [if_neg (fun h' => h0 (h.mp h'))]
      blk_point [iblk, V, idx t]
      rw [if_neg h0, Nat.add_zero]
  · rw [v46_apply]
    refine congrArg₂ (fun Y g => nrm Y g k) (funext fun k => row_apply m c t _ k) ?_
    blk_point [iblk, V, idx t]
  · blk_point [iblk, V, idx t]

/-- The result array after the run is the reference's. -/
theorem final (c : Dev nD) :
    (dats m 0 c).arrAt 10 cfg0.N
      = val_main_v54 (F := Ideal) (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7))
          (m ((c : Thread nD τ).loc main_arg8)) := by
  refine (dats m 0 c).arrAt_eq_of_covers 10 _ (by decide +kernel) fun t _ y => ?_
  blk_simp
  rw [after0_10]
  unfold outsAt0
  frame_out
  refine (pay_apply _ _ _ _ _ _ _ _ y).trans (Eq.trans ?_ (congrArg (val_main_v54 (F := Ideal) _ _ _ _ _ _ _ _ _)
    (emb_apply t y)).symm)
  exact point m c t (y 1) (y 2)

end Cert.Kernel5Ideal.SsdOut

end
-- ==== Proof.Claims5.lean ====
module

public import proofs.«01_k».proof.Defs
public import proofs.«01_k».proof.Proof.SsdOut
public import proofs.«01_k».proof.Proof.Gen.Kernel5.Frame
public import proofs.«01_k».proof.Proof.Gen.Reference5Ideal.Run

/-! # The claims about the end of the state-space mixer -/

@[expose] public section

set_option maxRecDepth 16384

noncomputable section

namespace Cert.Proof

open Idealize.ShloMosaic Idealize.SL.Sem

/-- The reference keeps its arguments and, being without semaphores, ends with every counter at zero. -/
theorem reference5_frame (m : (ℓ : Loc Cert.Reference5Ideal.nD Cert.Reference5Ideal.τ Cert.Reference5Ideal.sig) → Buf (Elt Ideal) ℓ)
    (g : Dev Cert.Reference5Ideal.nD → PrngReg) :
    θ_run (Cert.Reference5Ideal.defs (F := Ideal)) (onTc (τ := Cert.Reference5Ideal.τ) (Cert.Reference5Ideal.main (F := Ideal)))
      ⟨m, fun _ => 0, g⟩ (fun r => (∀ c : Dev Cert.Reference5Ideal.nD,
        r.2.mem ((c.tc : Thread _ _).loc Cert.Reference5Ideal.main_arg0) = m ((c.tc : Thread _ _).loc Cert.Reference5Ideal.main_arg0)
        ∧ r.2.mem ((c.tc : Thread _ _).loc Cert.Reference5Ideal.main_arg1) = m ((c.tc : Thread _ _).loc Cert.Reference5Ideal.main_arg1)
        ∧ r.2.mem ((c.tc : Thread _ _).loc Cert.Reference5Ideal.main_arg2) = m ((c.tc : Thread _ _).loc Cert.Reference5Ideal.main_arg2)
        ∧ r.2.mem ((c.tc : Thread _ _).loc Cert.Reference5Ideal.main_arg3) = m ((c.tc : Thread _ _).loc Cert.Reference5Ideal.main_arg3)
        ∧ r.2.mem ((c.tc : Thread _ _).loc Cert.Reference5Ideal.main_arg4) = m ((c.tc : Thread _ _).loc Cert.Reference5Ideal.main_arg4)
        ∧ r.2.mem ((c.tc : Thread _ _).loc Cert.Reference5Ideal.main_arg5) = m ((c.tc : Thread _ _).loc Cert.Reference5Ideal.main_arg5)
        ∧ r.2.mem ((c.tc : Thread _ _).loc Cert.Reference5Ideal.main_arg6) = m ((c.tc : Thread _ _).loc Cert.Reference5Ideal.main_arg6)
        ∧ r.2.mem ((c.tc : Thread _ _).loc Cert.Reference5Ideal.main_arg7) = m ((c.tc : Thread _ _).loc Cert.Reference5Ideal.main_arg7)
        ∧ r.2.mem ((c.tc : Thread _ _).loc Cert.Reference5Ideal.main_arg8) = m ((c.tc : Thread _ _).loc Cert.Reference5Ideal.main_arg8))
        ∧ r.2.sem = fun _ => 0) :=
  (θ_run _ _ _).mono (fun r h => ⟨fun c => (h c).2, sem_eq_zero_of_no_sems (by decide) _⟩)
    (Cert.Reference5Ideal.Value.run (F := Ideal) m g)

/-- From equal arguments the kernel and the reference leave the same result. -/
theorem algebraic5 : Cert.algebraic_Kernel5Ideal_Reference5Ideal
    (hKernel5Ideal := Cert.Kernel5Ideal.Gen.facts) (hReference5Ideal := Cert.Reference5Ideal.Gen.facts) := by
  intro m g m' g' hpre hargs
  refine ⟨fun c => (Cert.Kernel5Ideal.Gen.dats m 0 c).arrAt 10 Cert.Kernel5Ideal.cfg0.N,
    Cert.Kernel5Ideal.Value.run_blocks (F := Ideal) m g, ?_⟩
  refine (θ_run (Cert.Reference5Ideal.defs (F := Ideal)) _ _).mono (fun r h c => ?_) (Cert.Reference5Ideal.Value.run (F := Ideal) m' g')
  obtain ⟨hv, h0, h1, h2, h3, h4, h5, h6, h7, h8⟩ := h c
  refine ⟨(hv.trans (Cert.Reference5Ideal.Read.val_main_v54_eq _ _)).trans ?_, h0, h1, h2, h3, h4, h5, h6, h7, h8⟩
  rw [(hargs c).1, (hargs c).2.1, (hargs c).2.2.1, (hargs c).2.2.2.1, (hargs c).2.2.2.2.1, (hargs c).2.2.2.2.2.1, (hargs c).2.2.2.2.2.2.1, (hargs c).2.2.2.2.2.2.2.1, (hargs c).2.2.2.2.2.2.2.2]
  exact (Cert.Kernel5Ideal.SsdOut.final m c).symm

end Cert.Proof

end
-- ==== Proof.QkvNorm.lean ====
module

public import Idealize.ShloMosaic.Lib.Pointwise

/-! # A head of 64 lanes: its norm and its rotation -/

@[expose] public section

set_option maxRecDepth 16384

noncomputable section

namespace Cert.Qkv

open Idealize.ShloMosaic
open scoped BigOperators

/-- Lane `j` of a head `T`, divided by the root of the head's mean square, times its gain. -/
def hn (T g : Fin 64 → EReal) (j : Fin 64) : EReal :=
  T j * Ideal.rsqrt (Ideal.div (∑ i : Fin 64, T i * T i) (Ideal.ofBits FTy.f32 0x42800000#32)
    + Ideal.ofBits FTy.f32 0x358637BD#32) * g j

/-- The lane a lane is rotated with. -/
def mate (j : Fin 64) : Fin 64 := if h : j.val < 32 then ⟨j.val + 32, by omega⟩ else ⟨j.val - 32, by omega⟩

/-- The angle of a lane. -/
def lane (j : Fin 64) : Fin 32 := ⟨j.val % 32, by omega⟩

/-- Lane `j` of a normed head turned by the angles `a`. -/
def turn (T g : Fin 64 → EReal) (a : Fin 32 → EReal) (j : Fin 64) : EReal :=
  hn T g j * Ideal.cos (a (lane j))
    + hn T g (mate j) * (if j.val < 32 then -Ideal.sin (a (lane j)) else Ideal.sin (a (lane j)))

theorem cos_zero : Ideal.cos (0 : EReal) = 1 := by
  show ((Real.cos 0 : ℝ) : EReal) = 1
  rw [Real.cos_zero, EReal.coe_one]

theorem sin_zero : Ideal.sin (0 : EReal) = 0 := by
  show ((Real.sin 0 : ℝ) : EReal) = 0
  rw [Real.sin_zero, EReal.coe_zero]

/-- Turned by no angle, a head is itself. -/
theorem turn_zero (T g : Fin 64 → EReal) (a : Fin 32 → EReal) (ha : ∀ i, a i = 0) (j : Fin 64) :
    turn T g a j = hn T g j := by
  rw [turn, ha, cos_zero, sin_zero, neg_zero, ite_self, mul_one, mul_zero, add_zero]

/-- The first half of a turned head. -/
theorem turn_fst (T g : Fin 64 → EReal) (a : Fin 32 → EReal) (j : Fin 64) (h : j.val < 32) :
    turn T g a j = hn T g j * Ideal.cos (a ⟨j.val, h⟩)
      - hn T g ⟨j.val + 32, by omega⟩ * Ideal.sin (a ⟨j.val, h⟩) := by
  have hl : lane j = ⟨j.val, h⟩ := Fin.ext (Nat.mod_eq_of_lt h)
  rw [turn, hl, if_pos h, mate, dif_pos h, mul_neg, sub_eq_add_neg]

/-- The second half of a turned head. -/
theorem turn_snd (T g : Fin 64 → EReal) (a : Fin 32 → EReal) (j : Fin 64) (h : ¬ j.val < 32) :
    turn T g a j = hn T g j * Ideal.cos (a ⟨j.val - 32, by omega⟩)
      + hn T g ⟨j.val - 32, by omega⟩ * Ideal.sin (a ⟨j.val - 32, by omega⟩) := by
  have hl : lane j = ⟨j.val - 32, by omega⟩ := Fin.ext (by show j.val % 32 = j.val - 32; omega)
  rw [turn, hl, if_neg h, mate, dif_neg h]

/-- A sum over 256 lanes against the indicator of a head is the sum over the head. -/
theorem sum_head (f o : Fin 256 → EReal) (q : Fin 4)
    (ho : ∀ k, o k = if k.val / 64 = q.val then 1 else 0) :
    ∑ k : Fin 256, f k * o k = ∑ i : Fin 64, f ⟨q.val * 64 + i.val, by omega⟩ := by
  rw [Fin.sum_univ_tiles 4 64 rfl (fun k => f k * o k),
    Finset.sum_eq_single q]
  · refine Finset.sum_congr rfl fun i _ => ?_
    have h : (q.val * 64 + i.val) / 64 = q.val := by omega
    show f ⟨q.val * 64 + i.val, _⟩ * o ⟨q.val * 64 + i.val, _⟩ = _
    rw [ho, if_pos h, mul_one]
  · intro b _ hb
    refine Finset.sum_eq_zero fun i _ => ?_
    have h : ¬ (b.val * 64 + i.val) / 64 = q.val := fun h => hb (Fin.ext (by omega))
    show f ⟨b.val * 64 + i.val, _⟩ * o ⟨b.val * 64 + i.val, _⟩ = _
    rw [ho, if_neg h, mul_zero]
  · exact fun h => absurd (Finset.mem_univ q) h

/-- The pattern of one sixty-fourth, and that of sixty-four. -/
theorem c64 : Ideal.ofBits FTy.f32 0x42800000#32 = ((64 : ℝ) : EReal) := by
  simp [Ideal.ofBits, Ideal.ieee]
  rw [← EReal.coe_mul]
  norm_num
theorem c64inv : Ideal.ofBits FTy.f32 0x3C800000#32 = ((1 / 64 : ℝ) : EReal) := by
  simp [Ideal.ofBits, Ideal.ieee]
  rw [← EReal.coe_mul]
  norm_num

/-- Times a sixty-fourth is over sixty-four. -/
theorem mul_c64 (x : EReal) : x * Ideal.ofBits FTy.f32 0x3C800000#32
    = Ideal.div x (Ideal.ofBits FTy.f32 0x42800000#32) := by
  rw [c64, c64inv, Ideal.div_coe (by norm_num)]

end Cert.Qkv

end
-- ==== Proof.QkvChunk.lean ====
module

public import proofs.«01_k».proof.Proof.Gen.Kernel6Ideal.Skeleton
public import proofs.«01_k».proof.Proof.QkvNorm

/-! # Four heads of the kernel, normed and rotated together -/

@[expose] public section

set_option maxRecDepth 16384

noncomputable section

namespace Cert.Qkv

open Cert.Kernel6Ideal Cert.Kernel6Ideal.Gen Idealize.ShloMosaic Idealize.ShloMosaic.TcCoe
open scoped BigOperators

/-- The kernel's norm of four heads side by side. -/
def nv (x : FVec Ideal S256x256 .f32) (o : FVec Ideal S256x256 .bf16) (g : FVec Ideal S1x256 .f32) :
    FVec Ideal S256x256 .f32 :=
  mulf (mulf x (rsqrt (addf (mulf (addf
      (matmul dot_S256x256_S256x256_S256x256_1_0_0_1_n_n none (truncf .bf16 (mulf x x) bitsLt_bf16_f32)
        (shapeCast S256x256 o shapeCasts_S256x256_S256x256) (constant S256x256 .f32 0x00000000#32))
      (matmul dot_S256x256_S256x256_S256x256_1_0_0_1_n_n none
        (truncf .bf16 (subf (mulf x x) (extf .f32 (truncf .bf16 (mulf x x) bitsLt_bf16_f32) bitsLt_bf16_f32))
          bitsLt_bf16_f32)
        (shapeCast S256x256 o shapeCasts_S256x256_S256x256) (constant S256x256 .f32 0x00000000#32)))
      (broadcast S256x256 (Scalar.ofBits (F := Ideal) .f32 0x3C800000#32)))
      (broadcast S256x256 (Scalar.ofBits (F := Ideal) .f32 0x358637BD#32)))))
    (broadcastTo S256x256 (shapeCast S1x256 g shapeCasts_S1x256_S1x256) broadcasts_S1x256_S256x256)

/-- The kernel's rotation of four normed heads. -/
def rv (y C S : FVec Ideal S256x256 .f32) : FVec Ideal S256x256 .f32 :=
  addf (mulf y C) (mulf (select (k0_pay7 k0_pay5 k0_pay6)
    (dynamicRotate 1 224#32 none y rotates_S256x256_d1)
    (dynamicRotate 1 32#32 none y rotates_S256x256_d1)) S)

section Pay
variable (v : FVec Ideal S256x1536 .f32) (C S : FVec Ideal S256x256 .f32) (o : FVec Ideal S256x256 .bf16)
    (g : FVec Ideal S1x256 .f32)

theorem pay0 : k0_pay8 (F := Ideal) v C S k0_pay5 k0_pay6 o o g
    = rv (nv (extractStridedSlice S256x256 ![0, 0] v slices_S256x1536_o0_0_S256x256) o g) C S := rfl

theorem pay1 : k0_pay14 (F := Ideal) C S (k0_pay7 k0_pay5 k0_pay6) (k0_pay9 v) (k0_pay12 v o) (k0_pay13 v o) g
    = rv (nv (extractStridedSlice S256x256 ![0, 256] v slices_S256x1536_o0_256_S256x256) o g) C S := rfl

theorem pay2 : k0_pay18 (F := Ideal) C S (k0_pay7 k0_pay5 k0_pay6) (k0_pay15 v o o g) (k0_pay16 v o o g)
      (k0_pay17 v o o g)
    = rv (nv (extractStridedSlice S256x256 ![0, 512] v slices_S256x1536_o0_512_S256x256) o g) C S := rfl

theorem pay3 : k0_pay19 (F := Ideal) v C S (k0_pay7 k0_pay5 k0_pay6) o o g
    = rv (nv (extractStridedSlice S256x256 ![0, 768] v slices_S256x1536_o0_768_S256x256) o g) C S := rfl

theorem pay4 : k0_pay25 (F := Ideal) C S (k0_pay7 k0_pay5 k0_pay6) (k0_pay20 v) (k0_pay23 v) (k0_pay24 v o) o g
    = rv (nv (extractStridedSlice S256x256 ![0, 1024] v slices_S256x1536_o0_1024_S256x256) o g) C S := rfl

end Pay

/-- The lanes of head `q`. -/
abbrev at4 (q : Fin 4) (j : Fin 64) : Fin 256 := ⟨q.val * 64 + j.val, by omega⟩

/-- The normed heads, lane by lane, where the row is real. -/
theorem nv_apply (x : FVec Ideal S256x256 .f32) (o : FVec Ideal S256x256 .bf16) (g : FVec Ideal S1x256 .f32)
    (r : Fin 256) (q : Fin 4) (j : Fin 64) (hx : ∀ k, ∃ z : ℝ, x (ix2 r k) = (z : EReal))
    (ho : ∀ k l : Fin 256, o (ix2 k l) = if k.val / 64 = l.val / 64 then 1 else 0) :
    nv x o g (ix2 r (at4 q j))
      = hn (fun i => x (ix2 r (at4 q i))) (fun i => g (ix2 0 (at4 q i))) j := by
  have hz : ∀ k, x (ix2 r k) * x (ix2 r k) - x (ix2 r k) * x (ix2 r k) = (0 : EReal) := by
    intro k
    obtain ⟨z, h⟩ := hx k
    rw [h, ← EReal.coe_mul, ← EReal.coe_sub, sub_self, EReal.coe_zero]
  have hs := sum_head (fun k => x (ix2 r k) * x (ix2 r k))
    (fun k => o (ix2 k (at4 q j))) q (fun k => by
      rw [ho]
      have h : (at4 q j).val / 64 = q.val := by show (q.val * 64 + j.val) / 64 = q.val; omega
      rw [h])
  pointwise [nv]
  simp only [hz, zero_mul, Finset.sum_const_zero, add_zero, zero_add]
  rw [hn, ← mul_c64, ← hs]

/-- The kernel's test of a lane: the first half of its head. -/
theorem sel_apply (r : Fin 256) : ∀ l : Fin 256,
    k0_pay7 k0_pay5 k0_pay6 (ix2 r l) = if l.val % 64 < 32 then 1#1 else 0#1 := by
  pointwise [k0_pay7, k0_pay5, k0_pay6]
  decide +kernel

/-- The rotated heads, lane by lane. -/
theorem rv_apply (y C S : FVec Ideal S256x256 .f32) (r : Fin 256) (q : Fin 4) (j : Fin 64) :
    rv y C S (ix2 r (at4 q j))
      = y (ix2 r (at4 q j)) * C (ix2 r (at4 q j))
        + y (ix2 r (at4 q (mate j))) * S (ix2 r (at4 q j)) := by
  have hs := sel_apply r (at4 q j)
  have hl : (at4 q j).val % 64 = j.val := by show (q.val * 64 + j.val) % 64 = j.val; omega
  rw [hl] at hs
  have e : rv y C S (ix2 r (at4 q j))
      = y (ix2 r (at4 q j)) * C (ix2 r (at4 q j))
        + Scalar.select (k0_pay7 k0_pay5 k0_pay6 (ix2 r (at4 q j)))
            (dynamicRotate 1 224#32 none y rotates_S256x256_d1 (ix2 r (at4 q j)))
            (dynamicRotate 1 32#32 none y rotates_S256x256_d1 (ix2 r (at4 q j)))
          * S (ix2 r (at4 q j)) := rfl
  rw [e, hs]
  by_cases h : j.val < 32
  · rw [if_pos h]
    have : dynamicRotate 1 224#32 none y rotates_S256x256_d1 (ix2 r (at4 q j))
        = y (ix2 r (at4 q (mate j))) := by
      rw [mate, dif_pos h]
      pointwise
      congr 2
      refine Fin.ext ?_
      show (q.val * 64 + j.val + 256 - 224) % 256 = q.val * 64 + (j.val + 32)
      omega
    rw [this]
    rfl
  · rw [if_neg h]
    have : dynamicRotate 1 32#32 none y rotates_S256x256_d1 (ix2 r (at4 q j))
        = y (ix2 r (at4 q (mate j))) := by
      rw [mate, dif_neg h]
      pointwise
      congr 2
      refine Fin.ext ?_
      show (q.val * 64 + j.val + 256 - 32) % 256 = q.val * 64 + (j.val - 32)
      omega
    rw [this]
    rfl

end Cert.Qkv

end
-- ==== Proof.QkvOut.lean ====
module

public import proofs.«01_k».proof.Proof.Gen.Kernel6Ideal.Value
public import proofs.«01_k».proof.Proof.QkvChunk
public import Idealize.ShloMosaic.Lib.Pipeline.ValueKit

/-! # What a grid point stores, four heads at a time -/

@[expose] public section

set_option maxRecDepth 16384
set_option maxHeartbeats 1600000

noncomputable section

namespace Cert.Qkv

open Cert.Kernel6Ideal Cert.Kernel6Ideal.Gen Idealize.ShloMosaic Idealize.ShloMosaic.TcCoe
open Cert.Kernel6Ideal.Value (Cat7_0 E7 E8 E9 canon7_eq canon8_eq canon9_eq)

/-- Four heads of the product: columns `256 p` to `256 p + 255`. -/
def tile (v : FVec Ideal S256x1536 .f32) (p : Fin 5) : FVec Ideal S256x256 .f32 := fun i =>
  v (ix2 (i 0) ⟨p.val * 256 + (i 1).val, by have h : (i 1).val < 256 := (i 1).isLt; omega⟩)

section Slices
variable (v : FVec Ideal S256x1536 .f32)

theorem slice0 : extractStridedSlice S256x256 ![0, 0] v slices_S256x1536_o0_0_S256x256 = tile v 0 := by
  funext i; idx_vars i; pointwise [tile]; blk_ext
theorem slice1 : extractStridedSlice S256x256 ![0, 256] v slices_S256x1536_o0_256_S256x256 = tile v 1 := by
  funext i; idx_vars i; pointwise [tile]; blk_ext
theorem slice2 : extractStridedSlice S256x256 ![0, 512] v slices_S256x1536_o0_512_S256x256 = tile v 2 := by
  funext i; idx_vars i; pointwise [tile]; blk_ext
theorem slice3 : extractStridedSlice S256x256 ![0, 768] v slices_S256x1536_o0_768_S256x256 = tile v 3 := by
  funext i; idx_vars i; pointwise [tile]; blk_ext
theorem slice4 : extractStridedSlice S256x256 ![0, 1024] v slices_S256x1536_o0_1024_S256x256 = tile v 4 := by
  funext i; idx_vars i; pointwise [tile]; blk_ext

end Slices

variable (x0 : Vec Ideal S1x256x1024 .bf16) (x1 : Vec Ideal S1024x1536 .bf16) (x2 : Vec Ideal S256x256 .bf16)
    (x3 x4 : Vec Ideal S1x256 .f32) (x5 x6 : Vec Ideal S1x256x128 .f32)

/-- The four groups of queries, each normed and rotated. -/
theorem cat_eq : ∀ p : Fin 4, Cat7_0 (F := Ideal) x0 x1 x5 x6 x2 x3 p
    = rv (nv (tile (k0_pay2 x0 x1) ⟨p.val, by omega⟩) x2 x3) (k0_pay3 x5 x5) (k0_pay4 x6 x6)
  | ⟨0, _⟩ => (pay0 (k0_pay2 x0 x1) (k0_pay3 x5 x5) (k0_pay4 x6 x6) x2 x3).trans (by rw [slice0]; rfl)
  | ⟨1, _⟩ => (pay1 (k0_pay2 x0 x1) (k0_pay3 x5 x5) (k0_pay4 x6 x6) x2 x3).trans (by rw [slice1]; rfl)
  | ⟨2, _⟩ => (pay2 (k0_pay2 x0 x1) (k0_pay3 x5 x5) (k0_pay4 x6 x6) x2 x3).trans (by rw [slice2]; rfl)
  | ⟨3, _⟩ => (pay3 (k0_pay2 x0 x1) (k0_pay3 x5 x5) (k0_pay4 x6 x6) x2 x3).trans (by rw [slice3]; rfl)

/-- The stored queries. -/
theorem out7_apply (r : Fin 256) (n : Fin 1024) : out0_7 x0 x1 x2 x3 x4 x5 x6 (ix3 0 r n)
    = @HMul.hMul EReal EReal EReal _
        (rv (nv (tile (k0_pay2 x0 x1) ⟨n.val / 256, by omega⟩) x2 x3) (k0_pay3 x5 x5) (k0_pay4 x6 x6)
          (ix2 r ⟨n.val % 256, by omega⟩))
        (Ideal.ofBits FTy.f32 0x3E000000#32) := by
  unfold_out out0_7
  rw [View.ld_unit_zero (by decide), View.ld_unit_zero (by decide), View.ld_unit_zero (by decide),
    View.ld_unit_zero (by decide), View.ld_unit_zero (by decide), View.ld_unit_zero (by decide)]
  refine (canon7_eq x0 x1 x5 x6 x2 x3 (ix3 0 r n)).trans ?_
  refine congrArg (fun a : EReal => a * Ideal.ofBits FTy.f32 0x3E000000#32) ?_
  refine (congrFun (cat_eq x0 x1 x2 x3 x5 x6 ⟨n.val / 256, by omega⟩) _).trans (congrArg _ ?_)
  blk_ext

/-- The stored keys. -/
theorem out8_apply (q : Fin 4) (r : Fin 256) (j : Fin 64) : out0_8 x0 x1 x2 x3 x4 x5 x6 (ix4 0 q r j)
    = rv (nv (tile (k0_pay2 x0 x1) 4) x2 x4) (k0_pay3 x5 x5) (k0_pay4 x6 x6) (ix2 r (at4 q j)) := by
  unfold_out out0_8
  rw [View.ld_unit_zero (by decide), View.ld_unit_zero (by decide), View.ld_unit_zero (by decide),
    View.ld_unit_zero (by decide), View.ld_unit_zero (by decide), View.ld_unit_zero (by decide)]
  refine (canon8_eq x5 x6 x0 x1 x2 x4 (ix4 0 q r j)).trans ?_
  refine (congrFun (pay4 (k0_pay2 x0 x1) (k0_pay3 x5 x5) (k0_pay4 x6 x6) x2 x4) _).trans ?_
  rw [slice4]
  refine congrArg _ ?_
  blk_ext

/-- The stored values. -/
theorem out9_apply (q : Fin 4) (r : Fin 256) (j : Fin 64) : out0_9 x0 x1 x2 x3 x4 x5 x6 (ix4 0 q r j)
    = k0_pay2 x0 x1 (ix2 r ⟨q.val * 64 + j.val + 1280, by omega⟩) := by
  unfold_out out0_9
  rw [View.ld_unit_zero (by decide), View.ld_unit_zero (by decide)]
  refine (canon9_eq x0 x1 (ix4 0 q r j)).trans ?_
  refine congrArg (k0_pay2 x0 x1) ?_
  blk_ext

end Cert.Qkv

end
-- ==== Proof.QkvHost.lean ====
module

public import proofs.«01_k».proof.Proof.Gen.Kernel6Ideal.Value
public import proofs.«01_k».proof.Proof.QkvNorm
public import Idealize.ShloMosaic.Lib.StableHlo.ReadAt
public import Idealize.ShloMosaic.Lib.Claim

/-! # The tables the host prepares for the kernel -/

@[expose] public section

set_option maxRecDepth 16384
set_option maxHeartbeats 1600000

noncomputable section

namespace Cert.Qkv

open Cert.Kernel6Ideal Cert.Kernel6Ideal.Gen Idealize.ShloMosaic Idealize.ShloMosaic.TcCoe Idealize.SL.Sem
open scoped BigOperators

variable (m : (ℓ : Loc nD τ sig) → Buf (Elt Ideal) ℓ)

/-- The query gains, tiled over four heads. -/
theorem gq_apply (c : Dev nD) (l : Fin 256) : V m c main_v28 (ix2 0 l)
    = m ((c : Thread nD τ).loc main_arg2) (ix1 ⟨l.val % 64, by omega⟩) := by
  unfold V
  after_reads_at

/-- The key gains, tiled over four heads. -/
theorem gk_apply (c : Dev nD) (l : Fin 256) : V m c main_v32 (ix2 0 l)
    = m ((c : Thread nD τ).loc main_arg3) (ix1 ⟨l.val % 64, by omega⟩) := by
  unfold V
  after_reads_at

/-- The weights. -/
theorem w_eq (c : Dev nD) : V m c main_v33 = m ((c : Thread nD τ).loc main_arg1) := by
  funext y
  unfold V
  after_reads_at

/-- The angles the tables are made of: none on the context. -/
def ang (x : FVec Ideal S8192x32 .f32) (s : Fin 8448) (i : Fin 32) : EReal :=
  if h : s.val < 256 then 0 else x (ix2 ⟨s.val - 256, by omega⟩ i)

/-- The cosines. -/
theorem cos_apply (c : Dev nD) (s : Fin 8448) (l : Fin 128) : V m c main_v8 (ix3 0 s l)
    = Ideal.cos (ang (m ((c : Thread nD τ).loc main_arg4)) s ⟨l.val % 32, by omega⟩) := by
  generalize hA : ang (m ((c : Thread nD τ).loc main_arg4)) s ⟨l.val % 32, by omega⟩ = a
  unfold V
  after_reads_at
  by_cases h : l.val % 64 < 32
  · rewrite [dif_pos h]
    after_reads_at
    by_cases hs : s.val < 256
    · rewrite [dif_pos hs]
      after_reads_at
      exact congrArg (fun a : EReal => Ideal.cos a) ((dif_pos hs).symm.trans hA)
    · rewrite [dif_neg hs]
      after_reads_at
      refine congrArg (fun a : EReal => Ideal.cos a) (Eq.trans ?_ ((dif_neg hs).symm.trans hA))
      exact congrArg (fun i => m ((c : Thread nD τ).loc main_arg4) (ix2 ⟨s.val - 256, by omega⟩ i)) (Fin.ext (by show l.val % 64 = l.val % 32; omega))
  · rewrite [dif_neg h]
    after_reads_at
    by_cases hs : s.val < 256
    · rewrite [dif_pos hs]
      after_reads_at
      exact congrArg (fun a : EReal => Ideal.cos a) ((dif_pos hs).symm.trans hA)
    · rewrite [dif_neg hs]
      after_reads_at
      refine congrArg (fun a : EReal => Ideal.cos a) (Eq.trans ?_ ((dif_neg hs).symm.trans hA))
      exact congrArg (fun i => m ((c : Thread nD τ).loc main_arg4) (ix2 ⟨s.val - 256, by omega⟩ i)) (Fin.ext (by show l.val % 64 - 32 = l.val % 32; omega))

/-- The sines, negative on the first half of a head. -/
theorem sin_apply (c : Dev nD) (s : Fin 8448) (l : Fin 128) : V m c main_v14 (ix3 0 s l)
    = if l.val % 64 < 32 then -Ideal.sin (ang (m ((c : Thread nD τ).loc main_arg4)) s ⟨l.val % 32, by omega⟩)
      else Ideal.sin (ang (m ((c : Thread nD τ).loc main_arg4)) s ⟨l.val % 32, by omega⟩) := by
  generalize hA : ang (m ((c : Thread nD τ).loc main_arg4)) s ⟨l.val % 32, by omega⟩ = a
  unfold V
  after_reads_at
  by_cases h : l.val % 64 < 32
  · rewrite [dif_pos h, if_pos h]
    after_reads_at
    by_cases hs : s.val < 256
    · rewrite [dif_pos hs]
      after_reads_at
      exact congrArg (fun a : EReal => -Ideal.sin a) ((dif_pos hs).symm.trans hA)
    · rewrite [dif_neg hs]
      after_reads_at
      refine congrArg (fun a : EReal => -Ideal.sin a) (Eq.trans ?_ ((dif_neg hs).symm.trans hA))
      exact congrArg (fun i => m ((c : Thread nD τ).loc main_arg4) (ix2 ⟨s.val - 256, by omega⟩ i)) (Fin.ext (by show l.val % 64 = l.val % 32; omega))
  · rewrite [dif_neg h, if_neg h]
    after_reads_at
    by_cases hs : s.val < 256
    · rewrite [dif_pos hs]
      after_reads_at
      exact congrArg (fun a : EReal => Ideal.sin a) ((dif_pos hs).symm.trans hA)
    · rewrite [dif_neg hs]
      after_reads_at
      refine congrArg (fun a : EReal => Ideal.sin a) (Eq.trans ?_ ((dif_neg hs).symm.trans hA))
      exact congrArg (fun i => m ((c : Thread nD τ).loc main_arg4) (ix2 ⟨s.val - 256, by omega⟩ i)) (Fin.ext (by show l.val % 64 - 32 = l.val % 32; omega))

/-- The host's quotient of a lane by sixty-four, rounded down. -/
def quo (k : BitVec 32) : BitVec 32 :=
  Scalar.select
    (IntOp.andi
      (IntOp.cmpi CmpIPredicate.ne ((if k = 0 then 0 else if k.msb = true then -1 else 1) : BitVec 32)
        ((if (64#32 : BitVec 32) = 0 then 0 else if BitVec.msb (64#32 : BitVec 32) = true then -1 else 1) : BitVec 32))
      (IntOp.cmpi CmpIPredicate.ne (IntOp.remsi ArithUnit.host k 64#32) 0#32))
    (IntOp.subi (IntOp.divsi ArithUnit.host k 64#32) 1#32)
    (IntOp.divsi ArithUnit.host k 64#32)

theorem quo_eq : ∀ k : Fin 256, quo (BitVec.ofNat 32 k.val) = BitVec.ofNat 32 (k.val / 64) := by
  decide +kernel

theorem cmp_eq : ∀ a b : Fin 4, IntOp.cmpi CmpIPredicate.eq (BitVec.ofNat 32 a.val) (BitVec.ofNat 32 b.val)
    = if a.val = b.val then 1#1 else 0#1 := by
  decide +kernel

/-- The indicator of a head. -/
theorem ones_apply (c : Dev nD) (k l : Fin 256) : V m c main_v24 (ix2 k l)
    = if k.val / 64 = l.val / 64 then (1 : EReal) else 0 := by
  unfold V
  after_reads_at
  show FloatOps.uitofp (F := Ideal) FTy.bf16 (IntOp.cmpi CmpIPredicate.eq (quo (BitVec.ofNat 32 k.val)) (quo (BitVec.ofNat 32 l.val))) = _
  rw [quo_eq, quo_eq, cmp_eq ⟨k.val / 64, by omega⟩ ⟨l.val / 64, by omega⟩]
  by_cases h : k.val / 64 = l.val / 64
  · rw [if_pos h, if_pos h]
    show (((1#1 : BitVec 1).toNat : ℝ) : EReal) = 1
    simp
  · rw [if_neg h, if_neg h]
    show (((0#1 : BitVec 1).toNat : ℝ) : EReal) = 0
    simp

end Cert.Qkv

end
-- ==== Proof.QkvRef.lean ====
module

public import proofs.«01_k».proof.Proof.Gen.Reference6Ideal.Read
public import proofs.«01_k».proof.Proof.QkvNorm

/-! # The reference's queries, keys and values, at one index -/

@[expose] public section

set_option maxRecDepth 16384
set_option maxHeartbeats 1600000

noncomputable section

namespace Cert.Qkv

open Cert.Reference6Ideal Cert.Reference6Ideal.Gen Cert.Reference6Ideal.Read Idealize.ShloMosaic
open scoped BigOperators

variable (x0 : (⟨S4x8448x1024, .bf16⟩ : BufTy).Contents (Elt Ideal)) (x1 : (⟨S1024x1536, .f32⟩ : BufTy).Contents (Elt Ideal))
    (x2 x3 : (⟨S64, .f32⟩ : BufTy).Contents (Elt Ideal)) (x4 : (⟨S8192x32, .f32⟩ : BufTy).Contents (Elt Ideal))

/-- A token's projection. -/
def proj (b : Fin 4) (s : Fin 8448) (n : Fin 1536) : EReal :=
  ∑ k : Fin 1024, @HMul.hMul EReal EReal EReal _ (x0 (ix3 b s k)) (x1 (ix2 k n))

/-- A token's angles: none on the context. -/
def angs (s : Fin 8448) (i : Fin 32) : EReal :=
  if h : s.val < 256 then 0 else x4 (ix2 ⟨s.val - 256, by omega⟩ i)

theorem v1_apply (b : Fin 4) (s : Fin 8448) (n : Fin 1536) :
    val_main_v1 (F := Ideal) x0 x1 (ix3 b s n) = proj x0 x1 b s n := by
  rw [val_main_v1_apply]
  have hl : ∀ k, lidx_main_v1 (ix3 b s n) k = ix3 b s k := fun k =>
    funext fun a => by fin_cases a <;> rfl
  have hr : ∀ k, ridx_main_v1 (ix3 b s n) k = ix2 k n := fun k =>
    funext fun a => by fin_cases a <;> rfl
  simp only [hl, hr]
  rfl

/-- The reference's normed query heads. -/
theorem v16_apply (b : Fin 4) (s : Fin 8448) (q : Fin 16) (j : Fin 64) :
    val_main_v16 (F := Ideal) x0 x1 x2 (ix4 b s q j)
      = hn (fun i => proj x0 x1 b s ⟨q.val * 64 + i.val, by omega⟩) (fun i => x2 (ix1 i)) j := by
  unfold val_main_v16 val_main_v13 val_main_v12 val_main_v11 val_main_v10 val_main_v8 val_main_v6 val_main_v5
    val_main_v4 val_main_v3 val_main_v2
  simp only [← v1_apply]
  generalize val_main_v1 (F := Ideal) x0 x1 = Y
  pointwise [val_main_v15, val_main_v14, val_main_v9, val_main_v7, val_main_cst, val_main_cst_0, val_main_cst_1]
  rfl

/-- The reference's normed key heads. -/
theorem v31_apply (b : Fin 4) (s : Fin 8448) (q : Fin 4) (j : Fin 64) :
    val_main_v31 (F := Ideal) x0 x1 x3 (ix4 b s q j)
      = hn (fun i => proj x0 x1 b s ⟨q.val * 64 + i.val + 1024, by omega⟩) (fun i => x3 (ix1 i)) j := by
  unfold val_main_v31 val_main_v28 val_main_v27 val_main_v26 val_main_v25 val_main_v23 val_main_v21 val_main_v20
    val_main_v19 val_main_v18 val_main_v17
  simp only [← v1_apply]
  generalize val_main_v1 (F := Ideal) x0 x1 = Y
  pointwise [val_main_v30, val_main_v29, val_main_v24, val_main_v22, val_main_cst_2, val_main_cst_3, val_main_cst_4]
  simp only [Nat.add_comm 1024]
  rfl

/-- The reference's queries. -/
theorem v53_apply (b : Fin 4) (s : Fin 8448) (q : Fin 16) (j : Fin 64) :
    val_main_v53 (F := Ideal) x0 x1 x2 x4 (ix4 b s q j)
      = turn (fun i => proj x0 x1 b s ⟨q.val * 64 + i.val, by omega⟩) (fun i => x2 (ix1 i)) (angs x4 s) j := by
  have H := fun s j => v16_apply x0 x1 x2 b s q j
  unfold val_main_v53 val_main_v52 val_main_v51 val_main_v50 val_main_v48 val_main_v46 val_main_v45 val_main_v43
    val_main_v41 val_main_v40 val_main_v35 val_main_v34
  generalize val_main_v16 (F := Ideal) x0 x1 x2 = Y at H ⊢
  pointwise [val_main_v49, val_main_v47, val_main_v44, val_main_v42, val_main_v39, val_main_v38, val_main_v37,
    val_main_v36]
  by_cases h : s.val < 256
  · have hz : ∀ i, angs x4 s i = 0 := fun i => by rw [angs, dif_pos h]
    rw [dif_pos h, turn_zero _ _ _ hz]
    exact H s j
  · have hs : ∀ p, (⟨256 + (s.val - 256), p⟩ : Fin 8448) = s := fun p => Fin.ext (by show 256 + (s.val - 256) = s.val; omega)
    have ha : ∀ i, angs x4 s i = x4 (ix2 ⟨s.val - 256, by omega⟩ i) := fun i => by rw [angs, dif_neg h]
    rw [dif_neg h]
    simp only [hs, H]
    by_cases h' : j.val < 32
    · rw [dif_pos h', turn_fst _ _ _ _ h', ha]
      have hj : ∀ p, (⟨32 + j.val, p⟩ : Fin 64) = ⟨j.val + 32, by omega⟩ := fun p => Fin.ext (Nat.add_comm _ _)
      rw [hj]
    · rw [dif_neg h', turn_snd _ _ _ _ h', ha]
      have hj : ∀ p, (⟨32 + (j.val - 32), p⟩ : Fin 64) = j := fun p => Fin.ext (by show 32 + (j.val - 32) = j.val; omega)
      rw [hj]

/-- The reference's keys. -/
theorem v75_apply (b : Fin 4) (s : Fin 8448) (q : Fin 4) (j : Fin 64) :
    val_main_v75 (F := Ideal) x0 x1 x3 x4 (ix4 b s q j)
      = turn (fun i => proj x0 x1 b s ⟨q.val * 64 + i.val + 1024, by omega⟩) (fun i => x3 (ix1 i)) (angs x4 s) j := by
  have H := fun s j => v31_apply x0 x1 x3 b s q j
  unfold val_main_v75 val_main_v74 val_main_v73 val_main_v72 val_main_v70 val_main_v68 val_main_v67 val_main_v65
    val_main_v63 val_main_v62 val_main_v57 val_main_v56
  generalize val_main_v31 (F := Ideal) x0 x1 x3 = Y at H ⊢
  pointwise [val_main_v71, val_main_v69, val_main_v66, val_main_v64, val_main_v61, val_main_v60, val_main_v59,
    val_main_v58]
  by_cases h : s.val < 256
  · have hz : ∀ i, angs x4 s i = 0 := fun i => by rw [angs, dif_pos h]
    rw [dif_pos h, turn_zero _ _ _ hz]
    exact H s j
  · have hs : ∀ p, (⟨256 + (s.val - 256), p⟩ : Fin 8448) = s := fun p => Fin.ext (by show 256 + (s.val - 256) = s.val; omega)
    have ha : ∀ i, angs x4 s i = x4 (ix2 ⟨s.val - 256, by omega⟩ i) := fun i => by rw [angs, dif_neg h]
    rw [dif_neg h]
    simp only [hs, H]
    by_cases h' : j.val < 32
    · rw [dif_pos h', turn_fst _ _ _ _ h', ha]
      have hj : ∀ p, (⟨32 + j.val, p⟩ : Fin 64) = ⟨j.val + 32, by omega⟩ := fun p => Fin.ext (Nat.add_comm _ _)
      rw [hj]
    · rw [dif_neg h', turn_snd _ _ _ _ h', ha]
      have hj : ∀ p, (⟨32 + (j.val - 32), p⟩ : Fin 64) = j := fun p => Fin.ext (by show 32 + (j.val - 32) = j.val; omega)
      rw [hj]

/-- The reference's first result: the queries, scaled. -/
theorem v77_apply (b : Fin 4) (s : Fin 8448) (n : Fin 1024) :
    val_main_v77 (F := Ideal) x0 x1 x2 x4 (ix3 b s n)
      = turn (fun i => proj x0 x1 b s ⟨n.val / 64 * 64 + i.val, by omega⟩) (fun i => x2 (ix1 i)) (angs x4 s)
          ⟨n.val % 64, by omega⟩ * Ideal.ofBits FTy.f32 0x3E000000#32 := by
  have H := v53_apply x0 x1 x2 x4 b s ⟨n.val / 64, by omega⟩ ⟨n.val % 64, by omega⟩
  unfold val_main_v77 val_main_v76 val_main_v55
  generalize val_main_v53 (F := Ideal) x0 x1 x2 x4 = Y at H ⊢
  pointwise [val_main_v54, val_main_cst_5]
  exact congrArg (fun a : EReal => a * _) H

/-- The reference's second result: the keys, heads in front. -/
theorem v79_apply (b : Fin 4) (q : Fin 4) (s : Fin 8448) (j : Fin 64) :
    val_main_v79 (F := Ideal) x0 x1 x3 x4 (ix4 b q s j)
      = turn (fun i => proj x0 x1 b s ⟨q.val * 64 + i.val + 1024, by omega⟩) (fun i => x3 (ix1 i)) (angs x4 s) j := by
  rw [← v75_apply]
  unfold val_main_v79 val_main_v78
  generalize val_main_v75 (F := Ideal) x0 x1 x3 x4 = Y
  pointwise

/-- The reference's third result: the values, heads in front. -/
theorem v81_apply (b : Fin 4) (q : Fin 4) (s : Fin 8448) (j : Fin 64) :
    val_main_v81 (F := Ideal) x0 x1 (ix4 b q s j)
      = proj x0 x1 b s ⟨q.val * 64 + j.val + 1280, by omega⟩ := by
  rw [← v1_apply]
  unfold val_main_v81 val_main_v80 val_main_v33 val_main_v32
  generalize val_main_v1 (F := Ideal) x0 x1 = Y
  pointwise
  exact congrArg (fun k => Y (ix3 b s k)) (Fin.ext (Nat.add_comm _ _))

end Cert.Qkv

end
-- ==== Proof.QkvRow.lean ====
module

public import proofs.«01_k».proof.Proof.QkvOut
public import proofs.«01_k».proof.Proof.QkvHost
public import proofs.«01_k».proof.Proof.QkvRef
public import proofs.«01_k».proof.Proof.SoftmaxFold

/-! # A grid point's rows -/

@[expose] public section

set_option maxRecDepth 16384
set_option maxHeartbeats 1600000

noncomputable section

namespace Cert.Qkv

open Cert.Kernel6Ideal Cert.Kernel6Ideal.Gen Idealize.ShloMosaic Idealize.ShloMosaic.TcCoe Idealize.SL.Sem
open scoped BigOperators

variable (m : (ℓ : Loc nD τ sig) → Buf (Elt Ideal) ℓ)

/-- The blocks each grid point works on. -/
theorem idx : ∀ t : Fin cfg0.N,
    win0_0.index t = ![t.val / 33, t.val % 33, 0] ∧ win0_1.index t = ![0, 0]
    ∧ win0_2.index t = ![0, 0] ∧ win0_3.index t = ![0, 0] ∧ win0_4.index t = ![0, 0]
    ∧ win0_5.index t = ![0, t.val % 33, 0] ∧ win0_6.index t = ![0, t.val % 33, 0]
    ∧ win0_7.index t = ![t.val / 33, t.val % 33, 0] ∧ win0_8.index t = ![t.val / 33, 0, t.val % 33, 0]
    ∧ win0_9.index t = ![t.val / 33, 0, t.val % 33, 0] :=
  (by decide +kernel : ∀ t : Fin grid0.N, _)

/-- The batch of a grid point. -/
abbrev bt (t : Fin cfg0.N) : Fin 4 := ⟨t.val / 33, by have h : t.val < 132 := t.isLt; omega⟩

/-- The token of a row of a grid point's block. -/
abbrev tok (t : Fin cfg0.N) (r : Fin 256) : Fin 8448 :=
  ⟨t.val % 33 * 256 + r.val, by have h : t.val < 132 := t.isLt; omega⟩

/-- A row of the product. -/
theorem row_apply (c : Dev nD) (t : Fin cfg0.N) (r : Fin 256) (n : Fin 1536) :
    k0_pay2 (F := Ideal) (iblk m c 0 t) (iblk m c 1 t) (ix2 r n)
      = proj (m ((c : Thread nD τ).loc main_arg0)) (m ((c : Thread nD τ).loc main_arg1)) (bt t) (tok t r) n := by
  have hw := w_eq m c
  unfold proj
  pointwise [k0_pay2]
  refine Finset.sum_congr rfl fun k _ => congrArg₂ (fun a b : EReal => a * b) ?_ ?_
  · blk_point [iblk, V, idx t]
  · rw [← hw]
    blk_point [iblk, idx t]

/-- The ones of the heads. -/
theorem ones_blk (c : Dev nD) (t : Fin cfg0.N) (k l : Fin 256) :
    iblk m c 2 t (ix2 k l) = if k.val / 64 = l.val / 64 then (1 : EReal) else 0 := by
  rw [← ones_apply m c]
  blk_point [iblk, idx t]

/-- The queries' gains. -/
theorem gq_blk (c : Dev nD) (t : Fin cfg0.N) (l : Fin 256) :
    iblk m c 3 t (ix2 0 l) = m ((c : Thread nD τ).loc main_arg2) (ix1 ⟨l.val % 64, by omega⟩) := by
  rw [← gq_apply m c]
  blk_point [iblk, idx t]

/-- The keys' gains. -/
theorem gk_blk (c : Dev nD) (t : Fin cfg0.N) (l : Fin 256) :
    iblk m c 4 t (ix2 0 l) = m ((c : Thread nD τ).loc main_arg3) (ix1 ⟨l.val % 64, by omega⟩) := by
  rw [← gk_apply m c]
  blk_point [iblk, idx t]

/-- A block's cosines. -/
theorem cos_blk (c : Dev nD) (t : Fin cfg0.N) (r : Fin 256) (l : Fin 128) :
    iblk m c 5 t (ix3 0 r l)
      = Ideal.cos (ang (m ((c : Thread nD τ).loc main_arg4)) (tok t r) ⟨l.val % 32, by omega⟩) := by
  rw [← cos_apply m c]
  blk_point [iblk, idx t]

/-- A block's sines. -/
theorem sin_blk (c : Dev nD) (t : Fin cfg0.N) (r : Fin 256) (l : Fin 128) :
    iblk m c 6 t (ix3 0 r l)
      = if l.val % 64 < 32 then -Ideal.sin (ang (m ((c : Thread nD τ).loc main_arg4)) (tok t r) ⟨l.val % 32, by omega⟩)
        else Ideal.sin (ang (m ((c : Thread nD τ).loc main_arg4)) (tok t r) ⟨l.val % 32, by omega⟩) := by
  rw [← sin_apply m c]
  blk_point [iblk, idx t]

/-- The table of cosines, set twice side by side. -/
theorem two_cos (X : Vec Ideal S1x256x128 .f32) (r l : Fin 256) :
    k0_pay3 (F := Ideal) X X (ix2 r l) = X (ix3 0 r ⟨l.val % 128, by omega⟩) := by
  by_cases h : l.val < 128
  · have e : (⟨l.val % 128, by omega⟩ : Fin 128) = ⟨l.val, h⟩ := Fin.ext (Nat.mod_eq_of_lt h)
    rw [e]
    pointwise [k0_pay3]
    rw [dif_pos h]
  · have e : (⟨l.val % 128, by omega⟩ : Fin 128) = ⟨l.val - 128, by omega⟩ :=
      Fin.ext (by show l.val % 128 = l.val - 128; omega)
    rw [e]
    pointwise [k0_pay3]
    rw [dif_neg h]

/-- The table of sines, set twice side by side. -/
theorem two_sin (X : Vec Ideal S1x256x128 .f32) (r l : Fin 256) :
    k0_pay4 (F := Ideal) X X (ix2 r l) = X (ix3 0 r ⟨l.val % 128, by omega⟩) := two_cos X r l

end Cert.Qkv

end
-- ==== Proof.Qkv.lean ====
module

public import proofs.«01_k».proof.Proof.QkvRow

/-! # The projection to queries, keys and values: the kernel's arrays are the reference's -/

@[expose] public section

set_option maxRecDepth 16384
set_option maxHeartbeats 1600000

noncomputable section

namespace Cert.Qkv

open Cert.Kernel6Ideal Cert.Kernel6Ideal.Gen Idealize.ShloMosaic Idealize.ShloMosaic.TcCoe Idealize.SL.Sem
open Cert.Reference6Ideal.Read (val_main_v77 val_main_v79 val_main_v81)
open scoped BigOperators

/-- Real rows times real weights are real. -/
theorem proj_real (x0 : FVec Ideal S4x8448x1024 .bf16) (x1 : FVec Ideal S1024x1536 .f32)
    (h0 : ∀ i, ∃ r : ℝ, x0 i = (r : EReal)) (h1 : ∀ i, ∃ r : ℝ, x1 i = (r : EReal))
    (b : Fin 4) (s : Fin 8448) (n : Fin 1536) : ∃ z : ℝ, proj x0 x1 b s n = (z : EReal) := by
  choose a ha using h0
  choose d hd using h1
  refine ⟨∑ k : Fin 1024, a (ix3 b s k) * d (ix2 k n), ?_⟩
  rw [SoftmaxFold.coe_sum]
  refine Finset.sum_congr rfl fun k _ => ?_
  rw [ha, hd, EReal.coe_mul]

variable (m : (ℓ : Loc nD τ sig) → Buf (Elt Ideal) ℓ)

/-- Four heads of a grid point, normed and rotated, are the reference's. -/
theorem heads (c : Dev nD) (t : Fin cfg0.N)
    (h0 : ∀ i, ∃ r : ℝ, m ((c : Thread nD τ).loc main_arg0) i = (r : EReal))
    (h1 : ∀ i, ∃ r : ℝ, m ((c : Thread nD τ).loc main_arg1) i = (r : EReal))
    (g : FVec Ideal S1x256 .f32) (G : Fin 64 → EReal)
    (hg : ∀ l : Fin 256, g (ix2 0 l) = G ⟨l.val % 64, by omega⟩)
    (p : Fin 5) (r : Fin 256) (q : Fin 4) (j : Fin 64) :
    rv (nv (tile (k0_pay2 (F := Ideal) (iblk m c 0 t) (iblk m c 1 t)) p) (iblk m c 2 t) g)
        (k0_pay3 (iblk m c 5 t) (iblk m c 5 t)) (k0_pay4 (iblk m c 6 t) (iblk m c 6 t)) (ix2 r (at4 q j))
      = turn (fun i => proj (m ((c : Thread nD τ).loc main_arg0)) (m ((c : Thread nD τ).loc main_arg1)) (bt t) (tok t r)
            ⟨p.val * 256 + (q.val * 64 + i.val), by omega⟩) G
          (angs (m ((c : Thread nD τ).loc main_arg4)) (tok t r)) j := by
  have hx : ∀ k : Fin 256, tile (k0_pay2 (F := Ideal) (iblk m c 0 t) (iblk m c 1 t)) p (ix2 r k)
      = proj (m ((c : Thread nD τ).loc main_arg0)) (m ((c : Thread nD τ).loc main_arg1)) (bt t) (tok t r)
          ⟨p.val * 256 + k.val, by omega⟩ := fun k => row_apply m c t r _
  have hn' : ∀ j : Fin 64, nv (tile (k0_pay2 (F := Ideal) (iblk m c 0 t) (iblk m c 1 t)) p) (iblk m c 2 t) g
      (ix2 r (at4 q j)) = hn (fun i => proj (m ((c : Thread nD τ).loc main_arg0))
        (m ((c : Thread nD τ).loc main_arg1)) (bt t) (tok t r) ⟨p.val * 256 + (q.val * 64 + i.val), by omega⟩) G j := by
    intro j
    rw [nv_apply _ _ _ r q j (fun k => by rw [hx]; exact proj_real _ _ h0 h1 _ _ _) (ones_blk m c t)]
    refine congrArg₂ (fun T g => hn T g j) (funext fun i => hx _) (funext fun i => ?_)
    rw [hg]
    exact congrArg G (Fin.ext (by show (q.val * 64 + i.val) % 64 = i.val; omega))
  have hl : (⟨(at4 q j).val % 128 % 32, by omega⟩ : Fin 32) = lane j :=
    Fin.ext (by show (q.val * 64 + j.val) % 128 % 32 = j.val % 32; omega)
  have hc : k0_pay3 (F := Ideal) (iblk m c 5 t) (iblk m c 5 t) (ix2 r (at4 q j))
      = Ideal.cos (angs (m ((c : Thread nD τ).loc main_arg4)) (tok t r) (lane j)) := by
    rw [two_cos, cos_blk, ← hl]
    rfl
  have hs : k0_pay4 (F := Ideal) (iblk m c 6 t) (iblk m c 6 t) (ix2 r (at4 q j))
      = if j.val < 32 then -Ideal.sin (angs (m ((c : Thread nD τ).loc main_arg4)) (tok t r) (lane j))
        else Ideal.sin (angs (m ((c : Thread nD τ).loc main_arg4)) (tok t r) (lane j)) := by
    have e : (at4 q j).val % 128 % 64 = j.val := by show (q.val * 64 + j.val) % 128 % 64 = j.val; omega
    rw [two_sin, sin_blk, ← hl]
    simp only [e]
    rfl
  rw [rv_apply, hn' j, hn' (mate j), hc, hs]
  rfl

/-- The places of stored elements in the three results. -/
theorem emb7 (t : Fin cfg0.N) (y : S1x256x1024.Idx) :
    ((View.whole main_v34_0).slice (win0_7.rect t)).emb y = ix3 (bt t) (tok t (y 1)) (y 2) := by
  blk_ext [idx t]
theorem emb8 (t : Fin cfg0.N) (y : S1x4x256x64.Idx) :
    ((View.whole main_v34_1).slice (win0_8.rect t)).emb y = ix4 (bt t) (y 1) (tok t (y 2)) (y 3) := by
  blk_ext [idx t]
theorem emb9 (t : Fin cfg0.N) (y : S1x4x256x64.Idx) :
    ((View.whole main_v34_2).slice (win0_9.rect t)).emb y = ix4 (bt t) (y 1) (tok t (y 2)) (y 3) := by
  blk_ext [idx t]

variable (c : Dev nD)
    (h0 : ∀ i, ∃ r : ℝ, m ((c : Thread nD τ).loc main_arg0) i = (r : EReal))
    (h1 : ∀ i, ∃ r : ℝ, m ((c : Thread nD τ).loc main_arg1) i = (r : EReal))

include h0 h1 in
/-- The queries. -/
theorem final7 : (dats m 0 c).arrAt 7 cfg0.N
    = val_main_v77 (F := Ideal) (m ((c : Thread nD τ).loc main_arg0)) (m ((c : Thread nD τ).loc main_arg1))
        (m ((c : Thread nD τ).loc main_arg2)) (m ((c : Thread nD τ).loc main_arg4)) := by
  refine (dats m 0 c).arrAt_eq_of_covers 7 _ (by decide +kernel) fun t _ y => ?_
  blk_simp
  rw [after0_7]
  refine Eq.trans ?_ (congrArg (val_main_v77 (F := Ideal) _ _ _ _) (emb7 t y)).symm
  obtain ⟨r, n, rfl⟩ : ∃ (r : Fin 256) (n : Fin 1024), y = ix3 0 r n := ⟨y 1, y 2, by blk_ext⟩
  refine (out7_apply _ _ _ _ _ _ _ r n).trans ((v77_apply _ _ _ _ (bt t) (tok t r) n).trans ?_).symm
  refine congrArg (fun a : EReal => a * Ideal.ofBits FTy.f32 0x3E000000#32) ?_
  have hl : (⟨n.val % 256, by omega⟩ : Fin 256) = at4 ⟨n.val % 256 / 64, by omega⟩ ⟨n.val % 64, by omega⟩ :=
    Fin.ext (by show n.val % 256 = n.val % 256 / 64 * 64 + n.val % 64; omega)
  rw [hl, heads m c t h0 h1 _ (fun i => m ((c : Thread nD τ).loc main_arg2) (ix1 i)) (gq_blk m c t)]
  refine congrArg (fun T => turn T _ _ _) (funext fun i => congrArg (proj _ _ _ _) (Fin.ext ?_))
  show n.val / 64 * 64 + i.val = n.val / 256 * 256 + (n.val % 256 / 64 * 64 + i.val)
  omega

include h0 h1 in
/-- The keys. -/
theorem final8 : (dats m 0 c).arrAt 8 cfg0.N
    = val_main_v79 (F := Ideal) (m ((c : Thread nD τ).loc main_arg0)) (m ((c : Thread nD τ).loc main_arg1))
        (m ((c : Thread nD τ).loc main_arg3)) (m ((c : Thread nD τ).loc main_arg4)) := by
  refine (dats m 0 c).arrAt_eq_of_covers 8 _ (by decide +kernel) fun t _ y => ?_
  blk_simp
  rw [after0_8]
  refine Eq.trans ?_ (congrArg (val_main_v79 (F := Ideal) _ _ _ _) (emb8 t y)).symm
  obtain ⟨q, r, j, rfl⟩ : ∃ (q : Fin 4) (r : Fin 256) (j : Fin 64), y = ix4 0 q r j :=
    ⟨y 1, y 2, y 3, by blk_ext⟩
  refine (out8_apply _ _ _ _ _ _ _ q r j).trans ((v79_apply _ _ _ _ (bt t) q (tok t r) j).trans ?_).symm
  rw [heads m c t h0 h1 _ (fun i => m ((c : Thread nD τ).loc main_arg3) (ix1 i)) (gk_blk m c t)]
  refine congrArg (fun T => turn T _ _ _) (funext fun i => congrArg (proj _ _ _ _) (Fin.ext ?_))
  show q.val * 64 + i.val + 1024 = 4 * 256 + (q.val * 64 + i.val)
  omega

/-- The values. -/
theorem final9 : (dats m 0 c).arrAt 9 cfg0.N
    = val_main_v81 (F := Ideal) (m ((c : Thread nD τ).loc main_arg0)) (m ((c : Thread nD τ).loc main_arg1)) := by
  refine (dats m 0 c).arrAt_eq_of_covers 9 _ (by decide +kernel) fun t _ y => ?_
  blk_simp
  rw [after0_9]
  refine Eq.trans ?_ (congrArg (val_main_v81 (F := Ideal) _ _) (emb9 t y)).symm
  obtain ⟨q, r, j, rfl⟩ : ∃ (q : Fin 4) (r : Fin 256) (j : Fin 64), y = ix4 0 q r j :=
    ⟨y 1, y 2, y 3, by blk_ext⟩
  exact (out9_apply _ _ _ _ _ _ _ q r j).trans ((row_apply m c t r _).trans
    (v81_apply _ _ (bt t) q (tok t r) j).symm)

end Cert.Qkv

end
-- ==== Proof.QkvPre.lean ====
module

public import proofs.«01_k».proof.Defs
public import proofs.«01_k».proof.Proof.FlashPre

/-! # What the precondition gives: the rows and the projection's weights are real -/

@[expose] public section

set_option maxRecDepth 16384

noncomputable section

namespace Cert.Pre_finite_rows

open Idealize.ShloMosaic

instance facts : Facts where
  bitsLt_bf16_f32 := by decide
  bcast_S_S4x8448x1024 := by decide
  reducesTo_S4x8448x1024_S_d0_1_2 := by decide
  h_S_ := by decide
  bcast_S_S1024x1536 := by decide
  reducesTo_S1024x1536_S_d0_1 := by decide

/-- The precondition makes every entry of the rows and of the weights real. -/
theorem real (h : FVec Ideal S4x8448x1024 .bf16) (w : FVec Ideal S1024x1536 .f32) (g g' : FVec Ideal S64 .f32)
    (a : FVec Ideal S8192x32 .f32) (hp : fn (F := Ideal) h w g g' a = fun _ => 1#1) :
    (∀ i, ∃ r : ℝ, h i = (r : EReal)) ∧ (∀ i, ∃ r : ℝ, w i = (r : EReal)) := by
  have h0 := congrFun hp (fun a => a.elim0)
  dsimp only [fn] at h0
  obtain ⟨h1, h2⟩ := IntOp.andi_eq_one.mp h0
  exact ⟨fun i => Cert.Pre_finite_scores.real_of_cmp _ (Host.reduce_andi_all _ _ _ _ _ h1 i),
    fun i => Cert.Pre_finite_scores.real_of_cmp _ (Host.reduce_andi_all _ _ _ _ _ h2 i)⟩

end Cert.Pre_finite_rows

end
-- ==== Proof.Claims6.lean ====
module

public import proofs.«01_k».proof.Defs
public import proofs.«01_k».proof.Proof.Qkv
public import proofs.«01_k».proof.Proof.QkvPre
public import proofs.«01_k».proof.Proof.Gen.Kernel6.Frame
public import proofs.«01_k».proof.Proof.Gen.Reference6Ideal.Run

/-! # The claims about the projection to queries, keys and values -/

@[expose] public section

set_option maxRecDepth 16384

noncomputable section

namespace Cert.Proof

open Idealize.ShloMosaic Idealize.SL.Sem

/-- The reference keeps its arguments and, being without semaphores, ends with every counter at zero. -/
theorem reference6_frame (m : (ℓ : Loc Cert.Reference6Ideal.nD Cert.Reference6Ideal.τ Cert.Reference6Ideal.sig) → Buf (Elt Ideal) ℓ)
    (g : Dev Cert.Reference6Ideal.nD → PrngReg) :
    θ_run (Cert.Reference6Ideal.defs (F := Ideal)) (onTc (τ := Cert.Reference6Ideal.τ) (Cert.Reference6Ideal.main (F := Ideal)))
      ⟨m, fun _ => 0, g⟩ (fun r => (∀ c : Dev Cert.Reference6Ideal.nD,
        r.2.mem ((c.tc : Thread _ _).loc Cert.Reference6Ideal.main_arg0) = m ((c.tc : Thread _ _).loc Cert.Reference6Ideal.main_arg0)
        ∧ r.2.mem ((c.tc : Thread _ _).loc Cert.Reference6Ideal.main_arg1) = m ((c.tc : Thread _ _).loc Cert.Reference6Ideal.main_arg1)
        ∧ r.2.mem ((c.tc : Thread _ _).loc Cert.Reference6Ideal.main_arg2) = m ((c.tc : Thread _ _).loc Cert.Reference6Ideal.main_arg2)
        ∧ r.2.mem ((c.tc : Thread _ _).loc Cert.Reference6Ideal.main_arg3) = m ((c.tc : Thread _ _).loc Cert.Reference6Ideal.main_arg3)
        ∧ r.2.mem ((c.tc : Thread _ _).loc Cert.Reference6Ideal.main_arg4) = m ((c.tc : Thread _ _).loc Cert.Reference6Ideal.main_arg4))
        ∧ r.2.sem = fun _ => 0) :=
  (θ_run _ _ _).mono (fun r h => ⟨fun c => (h c).2.2.2, sem_eq_zero_of_no_sems (by decide) _⟩)
    (Cert.Reference6Ideal.Value.run (F := Ideal) m g)

/-- From equal arguments, the rows and weights finite, the kernel and the reference leave the same three results. -/
theorem algebraic6 : Cert.algebraic_Kernel6Ideal_Reference6Ideal_pre_finite_rows
    (hKernel6Ideal := Cert.Kernel6Ideal.Gen.facts) (hReference6Ideal := Cert.Reference6Ideal.Gen.facts)
    (hPre_finite_rows := Cert.Pre_finite_rows.facts) := by
  intro m g m' g' hpre hargs
  have hreal := fun c => Cert.Pre_finite_rows.real _ _ _ _ _ (hpre c)
  refine ⟨fun c => (Cert.Kernel6Ideal.Gen.dats m 0 c).arrAt 7 Cert.Kernel6Ideal.cfg0.N,
    fun c => (Cert.Kernel6Ideal.Gen.dats m 0 c).arrAt 8 Cert.Kernel6Ideal.cfg0.N,
    fun c => (Cert.Kernel6Ideal.Gen.dats m 0 c).arrAt 9 Cert.Kernel6Ideal.cfg0.N,
    Cert.Kernel6Ideal.Value.run_blocks (F := Ideal) m g, ?_⟩
  refine (θ_run (Cert.Reference6Ideal.defs (F := Ideal)) _ _).mono (fun r h c => ?_) (Cert.Reference6Ideal.Value.run (F := Ideal) m' g')
  obtain ⟨hq, hk, hv, h0, h1, h2, h3, h4⟩ := h c
  refine ⟨(hq.trans (Cert.Reference6Ideal.Read.val_main_v77_eq _ _)).trans ?_,
    (hk.trans (Cert.Reference6Ideal.Read.val_main_v79_eq _ _)).trans ?_,
    (hv.trans (Cert.Reference6Ideal.Read.val_main_v81_eq _ _)).trans ?_, h0, h1, h2, h3, h4⟩
  · rw [(hargs c).1, (hargs c).2.1, (hargs c).2.2.1, (hargs c).2.2.2.2]
    exact (Cert.Qkv.final7 m c (hreal c).1 (hreal c).2).symm
  · rw [(hargs c).1, (hargs c).2.1, (hargs c).2.2.2.1, (hargs c).2.2.2.2]
    exact (Cert.Qkv.final8 m c (hreal c).1 (hreal c).2).symm
  · rw [(hargs c).1, (hargs c).2.1]
    exact (Cert.Qkv.final9 m c).symm

end Cert.Proof

end
-- ==== Proof.Proj7.lean ====
module

public import proofs.«01_k».proof.Proof.Gen.Kernel7Ideal.Value
public import proofs.«01_k».proof.Proof.Gen.Reference7Ideal.Read
public import Idealize.ShloMosaic.Lib.Pipeline.ValueKit
public import Idealize.ShloMosaic.Lib.Pointwise
public import Idealize.ShloMosaic.Lib.StableHlo.ReadAt
public import Idealize.ShloMosaic.Lib.Routing.OpsSet

/-! # The product that makes the time steps -/

@[expose] public section

set_option maxRecDepth 16384

noncomputable section

namespace Cert.Kernel7Ideal.Proj

open Cert.Kernel7Ideal Cert.Kernel7Ideal.Gen Idealize.ShloMosaic Idealize.ShloMosaic.TcCoe Idealize.SL.Sem
open Idealize.ShloMosaic.Pipeline (Dat)
open scoped BigOperators

variable (m : (ℓ : Loc nD τ sig) → Buf (Elt Ideal) ℓ)

/-- The blocks each grid point works on: rows in turn, all columns. -/
theorem idx : ∀ t : Fin cfg0.N,
    win0_0.index t = ![t.val, 0] ∧ win0_1.index t = ![0, 0] ∧ win0_2.index t = ![t.val, 0] :=
  (by decide +kernel : ∀ t : Fin grid0.N, _)

/-- A grid point's product at one index is a sum over the 1024 channels. -/
theorem pay_apply (x : FVec Ideal S512x1024 .bf16) (w : FVec Ideal S1024x128 .bf16) (y : S512x128.Idx) :
    k0_pay1 (F := Ideal) x w y = ∑ k : Fin 1024, ((x (ValueIdx.ix2 (y 0) k) * w (ValueIdx.ix2 k (y 1)) : EReal)) := by
  idx_vars y
  pointwise [k0_pay1]
  rfl

/-- Where an update of the placing of 64 columns into 128 lands: at the same row and column. -/
theorem lands (i : IVec S1 32) (hi : ∀ j, i j = 0#32) (a : Fin 1024) (b : Fin 64) (r : Fin 1024) (n : Fin 128) :
    scatter_S1024x128_S1_S1024x64_01_n_1_0.resultIdx? (ValueIdx.ix2 a b) i = some (ValueIdx.ix2 r n)
      ↔ a.val = r.val ∧ b.val = n.val := by
  rw [Routing.resultIdx?_eq_some]
  have s0 : scatter_S1024x128_S1_S1024x64_01_n_1_0.start (ValueIdx.ix2 a b) i 0 = 0 := rfl
  have s1 : scatter_S1024x128_S1_S1024x64_01_n_1_0.start (ValueIdx.ix2 a b) i 1 = 0 := by
    unfold ScatterDims.start
    rw [dif_pos (show (1 : Fin 2) ∈ scatter_S1024x128_S1_S1024x64_01_n_1_0.scatterDimsToOperandDims from
      List.mem_singleton.2 rfl), hi]
    rfl
  have w0 : scatter_S1024x128_S1_S1024x64_01_n_1_0.window (ValueIdx.ix2 a b) 0 = a.val := rfl
  have w1 : scatter_S1024x128_S1_S1024x64_01_n_1_0.window (ValueIdx.ix2 a b) 1 = b.val := rfl
  constructor
  · intro h
    have h0 := h 0
    have h1 := h 1
    rw [s0, w0] at h0
    rw [s1, w1] at h1
    constructor
    · have : (0 : Int) + (a.val : Int) = (r.val : Int) := h0
      omega
    · have : (0 : Int) + (b.val : Int) = (n.val : Int) := h1
      omega
  · rintro ⟨h0, h1⟩ x
    fin_cases x
    · show _ + ((scatter_S1024x128_S1_S1024x64_01_n_1_0.window (ValueIdx.ix2 a b) 0 : ℕ) : Int) = (r.val : Int)
      rw [w0]
      refine (congrArg (· + (a.val : Int)) s0).trans ?_
      show (0 : Int) + (a.val : Int) = (r.val : Int)
      omega
    · show _ + ((scatter_S1024x128_S1_S1024x64_01_n_1_0.window (ValueIdx.ix2 a b) 1 : ℕ) : Int) = (n.val : Int)
      rw [w1]
      refine (congrArg (· + (b.val : Int)) s1).trans ?_
      show (0 : Int) + (b.val : Int) = (n.val : Int)
      omega

/-- The padded weights: the updates in the first 64 columns, the operand after them. -/
theorem padded (x : FVec Ideal S1024x128 .f32) (i : IVec S1 32) (hi : ∀ j, i j = 0#32) (u : FVec Ideal S1024x64 .f32)
    (r : Fin 1024) (n : Fin 128) :
    Host.scatter scatter_S1024x128_S1_S1024x64_01_n_1_0 (fun _ b => b) x i u (ValueIdx.ix2 r n)
      = if h : n.val < 64 then u (ValueIdx.ix2 r ⟨n.val, h⟩) else x (ValueIdx.ix2 r n) := by
  have key : ∀ k : S1024x64.Idx, scatter_S1024x128_S1_S1024x64_01_n_1_0.resultIdx? k i = some (ValueIdx.ix2 r n) →
      (k 0).val = r.val ∧ (k 1).val = n.val := fun k hk => by
    have e : k = ValueIdx.ix2 (k 0) (k 1) := ValueIdx.eq_ix2 k
    rw [e] at hk
    exact (lands i hi _ _ r n).1 hk
  by_cases h : n.val < 64
  · rw [dif_pos h]
    refine Routing.scatter_set_hit _ x i u _ _ (fun k hk => ?_) (ValueIdx.ix2 r ⟨n.val, h⟩)
      ((lands i hi r ⟨n.val, h⟩ r n).2 ⟨rfl, rfl⟩)
    obtain ⟨h0, h1⟩ := key k hk
    refine congrArg u ((ValueIdx.eq_ix2 k).trans ?_)
    exact congrArg₂ ValueIdx.ix2 (Fin.ext h0) (Fin.ext h1)
  · rw [dif_neg h]
    refine Routing.scatter_set_miss _ x i u _ fun k hk => h ?_
    have h1 := (key k hk).2
    have h2 : (k 1).val < 64 := (k 1).isLt
    omega

/-- The weights of the product: the time-step columns, then zeros. -/
theorem w_apply (c : Dev nD) (k : Fin 1024) (n : Fin 128) :
    (V m c main_v5 (ValueIdx.ix2 k n) : EReal)
      = if h : n.val < 64 then m ((c : Thread nD τ).loc main_arg1) (ValueIdx.ix3 0 k ⟨7168 + n.val, by omega⟩) else (0 : EReal) := by
  unfold V
  after_reads_at
  refine (padded _ _ (fun j => rfl) _ k n).trans ?_
  by_cases h : n.val < 64
  · rewrite [dif_pos h, dif_pos h]
    refine congrArg (m ((c : Thread nD τ).loc main_arg1)) (funext fun a => Fin.ext ?_)
    fin_cases a
    · rfl
    · exact Nat.zero_add _
    · rfl
  · rewrite [dif_neg h, dif_neg h]
    pointwise []

/-- The reference at one row and column. -/
theorem ref_apply (x0 : (⟨S4x8448x1024, .bf16⟩ : BufTy).Contents (Elt Ideal))
    (x1 : (⟨S1x1024x7232, .f32⟩ : BufTy).Contents (Elt Ideal)) (r : Fin 33792) (n : Fin 128) :
    Cert.Reference7Ideal.Read.val_main_v6 (F := Ideal) x0 x1 (ValueIdx.ix2 r n)
      = if h : n.val < 64 then ∑ k : Fin 1024, x0 (ValueIdx.ix3 ⟨r.val / 8448, by omega⟩ ⟨r.val % 8448, by omega⟩ k)
          * x1 (ValueIdx.ix3 0 k ⟨7168 + n.val, by omega⟩) else 0 := by
  pointwise [Cert.Reference7Ideal.Read.val_main_v6]
  by_cases h : n.val < 64
  · rw [dif_pos h, dif_pos h, Cert.Reference7Ideal.Read.val_main_v4_apply]
    refine (Cert.Reference7Ideal.Read.val_main_v3_apply x0 x1 _).trans (Finset.sum_congr rfl fun k _ => ?_)
    rw [Cert.Reference7Ideal.Read.val_main_v1_apply, Cert.Reference7Ideal.Read.val_main_v0_apply, Cert.Reference7Ideal.Read.val_main_v2_apply]
    refine congrArg₂ (fun a b : EReal => a * b) (congrArg x0 ?_) (congrArg x1 ?_)
    · funext a
      apply Fin.ext
      fin_cases a
      · show (r.val * 1024 + k.val) / 8650752 = r.val / 8448
        omega
      · show (r.val * 1024 + k.val) / 1024 % 8448 = r.val % 8448
        omega
      · show (r.val * 1024 + k.val) % 1024 = k.val
        omega
    · funext a
      apply Fin.ext
      fin_cases a
      · rfl
      · show (k.val * 7232 + (7168 + n.val)) / 7232 % 1024 = k.val
        omega
      · show (k.val * 7232 + (7168 + n.val)) % 7232 = 7168 + n.val
        omega
  · rw [dif_neg h, dif_neg h]
    pointwise [Cert.Reference7Ideal.Read.val_main_v5, Cert.Reference7Ideal.Read.val_main_cst]

/-- The place of a stored element in the result. -/
theorem emb_apply (t : Fin cfg0.N) (r : Fin 512) (n : Fin 128) :
    ((View.whole main_v7).slice (win0_2.rect t)).emb (ValueIdx.ix2 r n)
      = ValueIdx.ix2 ⟨t.val * 512 + r.val, by have h : t.val < 66 := t.isLt; omega⟩ n := by
  blk_ext [idx t]

/-- A row of the input, read off its array. -/
theorem x_apply (c : Dev nD) (t : Fin cfg0.N) (r : Fin 512) (k : Fin 1024) :
    iblk m c 0 t (ValueIdx.ix2 r k) = m ((c : Thread nD τ).loc main_arg0)
      (ValueIdx.ix3 ⟨(t.val * 512 + r.val) / 8448, by have h : t.val < 66 := t.isLt; omega⟩
        ⟨(t.val * 512 + r.val) % 8448, by omega⟩ k) := by
  blk_point [iblk, V, idx t]

/-- The whole of the weights stays for every grid point. -/
theorem w_blk (c : Dev nD) (t : Fin cfg0.N) (k : Fin 1024) (n : Fin 128) :
    iblk m c 1 t (ValueIdx.ix2 k n) = V m c main_v5 (ValueIdx.ix2 k n) := by
  unfold iblk
  blk_simp
  exact congrArg (V m c main_v5) (by blk_ext [idx t])

/-- The result array after the run is the reference's. -/
theorem final (c : Dev nD) :
    (dats m 0 c).arrAt 2 cfg0.N
      = Cert.Reference7Ideal.Read.val_main_v6 (F := Ideal) (m ((c : Thread nD τ).loc main_arg0))
          (m ((c : Thread nD τ).loc main_arg1)) := by
  refine (dats m 0 c).arrAt_eq_of_covers 2 _ (by decide +kernel) fun t _ y => ?_
  blk_simp
  rw [after0_2]
  frame_out
  obtain ⟨r, n, rfl⟩ : ∃ (r : Fin 512) (n : Fin 128), y = ValueIdx.ix2 r n := ⟨y 0, y 1, by blk_ext⟩
  refine (pay_apply _ _ _).trans (Eq.trans ?_ ((congrArg (Cert.Reference7Ideal.Read.val_main_v6 (F := Ideal) _ _)
    (emb_apply t r n)).trans (ref_apply _ _ _ n)).symm)
  have e : ∀ k : Fin 1024, (iblk m c 1 t (ValueIdx.ix2 k n) : EReal) = _ := fun k => (w_blk m c t k n).trans (w_apply m c k n)
  by_cases h : n.val < 64
  · rw [dif_pos h]
    refine Finset.sum_congr rfl fun k _ => congrArg₂ (fun a b : EReal => a * b) (x_apply m c t r k) ?_
    exact (e k).trans (dif_pos h)
  · rw [dif_neg h]
    refine Finset.sum_eq_zero fun k _ => ?_
    exact (congrArg (@HMul.hMul EReal EReal EReal _ (iblk m c 0 t (ValueIdx.ix2 r k))) ((e k).trans (dif_neg h))).trans (mul_zero _)

end Cert.Kernel7Ideal.Proj

end
-- ==== Proof.Claims7.lean ====
module

public import proofs.«01_k».proof.Defs
public import proofs.«01_k».proof.Proof.Proj7
public import proofs.«01_k».proof.Proof.Gen.Kernel7.Frame
public import proofs.«01_k».proof.Proof.Gen.Reference7Ideal.Run

/-! # The claims about the product for the time-step columns -/

@[expose] public section

set_option maxRecDepth 16384

noncomputable section

namespace Cert.Proof

open Idealize.ShloMosaic Idealize.SL.Sem

/-- The reference keeps its arguments and, being without semaphores, ends with every counter at zero. -/
theorem reference7_frame (m : (ℓ : Loc Cert.Reference7Ideal.nD Cert.Reference7Ideal.τ Cert.Reference7Ideal.sig) → Buf (Elt Ideal) ℓ)
    (g : Dev Cert.Reference7Ideal.nD → PrngReg) :
    θ_run (Cert.Reference7Ideal.defs (F := Ideal)) (onTc (τ := Cert.Reference7Ideal.τ) (Cert.Reference7Ideal.main (F := Ideal)))
      ⟨m, fun _ => 0, g⟩ (fun r => (∀ c : Dev Cert.Reference7Ideal.nD,
        r.2.mem ((c.tc : Thread _ _).loc Cert.Reference7Ideal.main_arg0) = m ((c.tc : Thread _ _).loc Cert.Reference7Ideal.main_arg0)
        ∧ r.2.mem ((c.tc : Thread _ _).loc Cert.Reference7Ideal.main_arg1) = m ((c.tc : Thread _ _).loc Cert.Reference7Ideal.main_arg1))
        ∧ r.2.sem = fun _ => 0) :=
  (θ_run _ _ _).mono (fun r h => ⟨fun c => (h c).2, sem_eq_zero_of_no_sems (by decide) _⟩)
    (Cert.Reference7Ideal.Value.run (F := Ideal) m g)

/-- From equal arguments the kernel and the reference leave the same result. -/
theorem algebraic7 : Cert.algebraic_Kernel7Ideal_Reference7Ideal
    (hKernel7Ideal := Cert.Kernel7Ideal.Gen.facts) (hReference7Ideal := Cert.Reference7Ideal.Gen.facts) := by
  intro m g m' g' hpre hargs
  refine ⟨fun c => (Cert.Kernel7Ideal.Gen.dats m 0 c).arrAt 2 Cert.Kernel7Ideal.cfg0.N,
    Cert.Kernel7Ideal.Value.run_blocks (F := Ideal) m g, ?_⟩
  refine (θ_run (Cert.Reference7Ideal.defs (F := Ideal)) _ _).mono (fun r h c => ?_) (Cert.Reference7Ideal.Value.run (F := Ideal) m' g')
  obtain ⟨hv, h0, h1⟩ := h c
  refine ⟨(hv.trans (Cert.Reference7Ideal.Read.val_main_v6_eq _ _)).trans ?_, h0, h1⟩
  rw [(hargs c).1, (hargs c).2]
  exact (Cert.Kernel7Ideal.Proj.final m c).symm

end Cert.Proof

end
-- ==== Proof.NormMod.lean ====
module

public import proofs.«01_k».proof.Proof.Gen.Kernel8Ideal.Value
public import proofs.«01_k».proof.Proof.Gen.Reference8Ideal.Read
public import Idealize.ShloMosaic.Lib.Pipeline.ValueKit
public import Idealize.ShloMosaic.Lib.Pointwise

/-! # The norm of the tokens with its modulation -/

@[expose] public section

set_option maxRecDepth 16384

noncomputable section

namespace Cert.Kernel8Ideal.NormMod

open Cert.Kernel8Ideal Cert.Kernel8Ideal.Gen Idealize.ShloMosaic Idealize.ShloMosaic.TcCoe Idealize.SL.Sem
open Cert.Reference8Ideal.Read
open Idealize.ShloMosaic.Pipeline (Dat)
open scoped BigOperators

variable (m : (ℓ : Loc nD τ sig) → Buf (Elt Ideal) ℓ)

/-- Channel `k` of a row `X`, divided by the root of the row's mean square, times its gain, then scaled and shifted. -/
def nrm (X : Fin 1024 → EReal) (g a b : EReal) (k : Fin 1024) : EReal :=
  X k * Ideal.rsqrt (Ideal.div (∑ j : Fin 1024, X j * X j) (Ideal.ofBits FTy.f32 1149239296#32)
    + Ideal.ofBits FTy.f32 897988541#32) * g * (1 + a) + b

/-- The blocks each grid point works on; the modulation's row is the fifth for the block of context tokens. -/
theorem idx : ∀ t : Fin cfg0.N,
    win0_0.index t = ![t.val / 33, t.val % 33, 0] ∧ win0_1.index t = ![0, 0]
    ∧ win0_2.index t = ![if t.val % 33 < 1 then 4 else t.val / 33, 0, 0]
    ∧ win0_3.index t = ![t.val / 33, t.val % 33, 0] :=
  (by decide +kernel : ∀ t : Fin grid0.N, _)

/-- The batch of a grid point. -/
abbrev bt (t : Fin cfg0.N) : Fin 4 := ⟨t.val / 33, by have h : t.val < 132 := t.isLt; omega⟩

/-- The token of a row of a grid point's block. -/
abbrev tok (t : Fin cfg0.N) (r : Fin 256) : Fin 8448 :=
  ⟨t.val % 33 * 256 + r.val, by have h : t.val < 132 := t.isLt; omega⟩

/-- What is stored at one index. -/
theorem pay_apply (x : Vec Ideal S1x256x1024 .f32) (g : Vec Ideal S1x1024 .f32) (a b : Vec Ideal S1x1x1024 .f32)
    (r : Fin 256) (n : Fin 1024) :
    k0_pay1 (F := Ideal) x g a b (ValueIdx.ix3 0 r n)
      = nrm (fun k => x (ValueIdx.ix3 0 r k)) (g (ValueIdx.ix2 0 n)) (a (ValueIdx.ix3 0 0 n)) (b (ValueIdx.ix3 0 0 n)) n := by
  pointwise [k0_pay1]
  rfl

/-- The reference's scale or shift: the fifth row for the context tokens. -/
theorem v17_apply (x2 : (⟨S8x6x1024, .f32⟩ : BufTy).Contents (Elt Ideal)) (b : Fin 4) (s : Fin 8448) (n : Fin 1024) :
    val_main_v17 (F := Ideal) x2 (ValueIdx.ix3 b s n)
      = if s.val < 256 then x2 (ValueIdx.ix3 4 1 n) else x2 (ValueIdx.ix3 ⟨b.val, by omega⟩ 1 n) := by
  pointwise [val_main_v17, val_main_v16, val_main_v15, val_main_v14, val_main_v13]
  rfl

theorem v25_apply (x2 : (⟨S8x6x1024, .f32⟩ : BufTy).Contents (Elt Ideal)) (b : Fin 4) (s : Fin 8448) (n : Fin 1024) :
    val_main_v25 (F := Ideal) x2 (ValueIdx.ix3 b s n)
      = if s.val < 256 then x2 (ValueIdx.ix3 4 0 n) else x2 (ValueIdx.ix3 ⟨b.val, by omega⟩ 0 n) := by
  pointwise [val_main_v25, val_main_v24, val_main_v23, val_main_v22, val_main_v21]
  rfl

/-- The reference at one index. -/
theorem ref_apply (x0 : (⟨S4x8448x1024, .f32⟩ : BufTy).Contents (Elt Ideal))
    (x1 : (⟨S1024, .f32⟩ : BufTy).Contents (Elt Ideal)) (x2 : (⟨S8x6x1024, .f32⟩ : BufTy).Contents (Elt Ideal))
    (b : Fin 4) (s : Fin 8448) (n : Fin 1024) :
    val_main_v27 (F := Ideal) x0 x1 x2 (ValueIdx.ix3 b s n)
      = nrm (fun k => x0 (ValueIdx.ix3 b s k)) (x1 (ValueIdx.ix1 n)) (val_main_v17 (F := Ideal) x2 (ValueIdx.ix3 b s n))
          (val_main_v25 (F := Ideal) x2 (ValueIdx.ix3 b s n)) n := by
  unfold val_main_v27 val_main_v26 val_main_v20 val_main_v19
  generalize val_main_v17 (F := Ideal) x2 = A
  generalize val_main_v25 (F := Ideal) x2 = B
  pointwise [val_main_v18, val_main_v12, val_main_v11, val_main_v10, val_main_v9, val_main_v8, val_main_v7, val_main_v6,
    val_main_v5, val_main_v4, val_main_v3, val_main_v2, val_main_v1, val_main_v0, val_main_cst, val_main_cst_0,
    val_main_cst_1, val_main_cst_2]
  rfl

/-- The place of a stored element in the result. -/
theorem emb_apply (t : Fin cfg0.N) (r : Fin 256) (n : Fin 1024) :
    ((View.whole main_v1).slice (win0_3.rect t)).emb (ValueIdx.ix3 0 r n) = ValueIdx.ix3 (bt t) (tok t r) n := by
  blk_ext [idx t]

/-- A row of the modulation that a grid point reads. -/
theorem row_apply (c : Dev nD) (t : Fin cfg0.N) (r : Fin 256) (n : Fin 1024) :
    (View.ld (iblk m c 2 t) (Rect.unit ![0, 1, 0] ![1, 1, 1024] inb_S1x6x1024_S1x1x1024_0_1_0) (ValueIdx.ix3 0 0 n)
        = val_main_v17 (F := Ideal) (m ((c : Thread nD τ).loc main_arg2)) (ValueIdx.ix3 (bt t) (tok t r) n))
    ∧ (View.ld (iblk m c 2 t) (Rect.unit ![0, 0, 0] ![1, 1, 1024] inb_S1x6x1024_S1x1x1024_0_0_0) (ValueIdx.ix3 0 0 n)
        = val_main_v25 (F := Ideal) (m ((c : Thread nD τ).loc main_arg2)) (ValueIdx.ix3 (bt t) (tok t r) n)) := by
  rw [v17_apply, v25_apply]
  have h : ((tok t r).val < 256) ↔ t.val % 33 < 1 := by
    have h1 := r.isLt
    show t.val % 33 * 256 + r.val < 256 ↔ _
    omega
  by_cases h0 : t.val % 33 < 1
  · rw [if_pos (h.mpr h0), if_pos (h.mpr h0)]
    constructor <;>
    · blk_point [iblk, V, idx t]
      rw [if_pos h0]
      rfl
  · rw [if_neg (fun h' => h0 (h.mp h')), if_neg (fun h' => h0 (h.mp h'))]
    constructor <;>
    · blk_point [iblk, V, idx t]
      rw [if_neg h0, Nat.add_zero]

/-- The result array after the run is the reference's. -/
theorem final (c : Dev nD) :
    (dats m 0 c).arrAt 3 cfg0.N
      = val_main_v27 (F := Ideal) (m ((c : Thread nD τ).loc main_arg0)) (m ((c : Thread nD τ).loc main_arg1))
          (m ((c : Thread nD τ).loc main_arg2)) := by
  refine (dats m 0 c).arrAt_eq_of_covers 3 _ (by decide +kernel) fun t _ y => ?_
  blk_simp
  rw [after0_3]
  frame_out
  obtain ⟨r, n, rfl⟩ : ∃ (r : Fin 256) (n : Fin 1024), y = ValueIdx.ix3 0 r n := ⟨y 1, y 2, by blk_ext⟩
  refine (pay_apply _ _ _ _ r n).trans (Eq.trans ?_ (congrArg (val_main_v27 (F := Ideal) _ _ _) (emb_apply t r n)).symm)
  rw [ref_apply, (row_apply m c t r n).1, (row_apply m c t r n).2]
  refine congrArg₂ (fun X g => nrm X g _ _ n) (funext fun k => ?_) ?_
  · blk_point [iblk, V, idx t]
  · blk_point [iblk, V, idx t]

end Cert.Kernel8Ideal.NormMod

end
-- ==== Proof.Claims8.lean ====
module

public import proofs.«01_k».proof.Defs
public import proofs.«01_k».proof.Proof.NormMod
public import proofs.«01_k».proof.Proof.Gen.Kernel8.Frame
public import proofs.«01_k».proof.Proof.Gen.Reference8Ideal.Run

/-! # The claims about the modulated norm -/

@[expose] public section

set_option maxRecDepth 16384

noncomputable section

namespace Cert.Proof

open Idealize.ShloMosaic Idealize.SL.Sem

/-- The reference keeps its arguments and, being without semaphores, ends with every counter at zero. -/
theorem reference8_frame (m : (ℓ : Loc Cert.Reference8Ideal.nD Cert.Reference8Ideal.τ Cert.Reference8Ideal.sig) → Buf (Elt Ideal) ℓ)
    (g : Dev Cert.Reference8Ideal.nD → PrngReg) :
    θ_run (Cert.Reference8Ideal.defs (F := Ideal)) (onTc (τ := Cert.Reference8Ideal.τ) (Cert.Reference8Ideal.main (F := Ideal)))
      ⟨m, fun _ => 0, g⟩ (fun r => (∀ c : Dev Cert.Reference8Ideal.nD,
        r.2.mem ((c.tc : Thread _ _).loc Cert.Reference8Ideal.main_arg0) = m ((c.tc : Thread _ _).loc Cert.Reference8Ideal.main_arg0)
        ∧ r.2.mem ((c.tc : Thread _ _).loc Cert.Reference8Ideal.main_arg1) = m ((c.tc : Thread _ _).loc Cert.Reference8Ideal.main_arg1)
        ∧ r.2.mem ((c.tc : Thread _ _).loc Cert.Reference8Ideal.main_arg2) = m ((c.tc : Thread _ _).loc Cert.Reference8Ideal.main_arg2))
        ∧ r.2.sem = fun _ => 0) :=
  (θ_run _ _ _).mono (fun r h => ⟨fun c => (h c).2, sem_eq_zero_of_no_sems (by decide) _⟩)
    (Cert.Reference8Ideal.Value.run (F := Ideal) m g)

/-- From equal arguments the kernel and the reference leave the same result. -/
theorem algebraic8 : Cert.algebraic_Kernel8Ideal_Reference8Ideal
    (hKernel8Ideal := Cert.Kernel8Ideal.Gen.facts) (hReference8Ideal := Cert.Reference8Ideal.Gen.facts) := by
  intro m g m' g' hpre hargs
  refine ⟨fun c => (Cert.Kernel8Ideal.Gen.dats m 0 c).arrAt 3 Cert.Kernel8Ideal.cfg0.N,
    Cert.Kernel8Ideal.Value.run_blocks (F := Ideal) m g, ?_⟩
  refine (θ_run (Cert.Reference8Ideal.defs (F := Ideal)) _ _).mono (fun r h c => ?_) (Cert.Reference8Ideal.Value.run (F := Ideal) m' g')
  obtain ⟨hv, h0, h1, h2⟩ := h c
  refine ⟨(hv.trans (Cert.Reference8Ideal.Read.val_main_v27_eq _ _ _)).trans ?_, h0, h1, h2⟩
  rw [(hargs c).1, (hargs c).2.1, (hargs c).2.2]
  exact (Cert.Kernel8Ideal.NormMod.final m c).symm

end Cert.Proof

end
-- ==== Proof.ConvRef.lean ====
module

public import proofs.«01_k».proof.Proof.Gen.Reference9Ideal.Read
public import Idealize.ShloMosaic.Lib.Pipeline.ValueKit
public import Idealize.ShloMosaic.Lib.Pointwise

/-! # What the reference's convolution leaves at one token and channel -/

@[expose] public section

set_option maxRecDepth 16384

noncomputable section

namespace Cert.Kernel9Ideal.Conv

open Cert.Reference9Ideal Idealize.ShloMosaic Idealize.ShloMosaic.TcCoe Idealize.SL.Sem
open Cert.Reference9Ideal.Read
open scoped BigOperators

/-- Token `q - 8` of an image at one channel, as a block of 256 tokens with number `j` sees it: zero before and after
    the tokens, and zero beyond the border between the context's block, number 0, and the latent blocks. -/
def near (x : (⟨S4x8448x3072, .f32⟩ : BufTy).Contents (Elt Ideal)) (b : Fin 4) (j q : ℕ) (n : Fin 3072) : EReal :=
  if h : (j = 0 ↔ q < 264) ∧ 8 ≤ q ∧ q < 8456 then x (ValueIdx.ix3 b ⟨q - 8, by omega⟩ n) else 0

/-- Five tokens, each times its weight, and the bias. -/
def taps (u w : Fin 5 → EReal) (b : EReal) : EReal :=
  u 0 * w 0 + u 1 * w 1 + u 2 * w 2 + u 3 * w 3 + u 4 * w 4 + b

/-- A sum after its silu. -/
def silu (x : EReal) : EReal := x * Ideal.div 1 (1 + Ideal.exp (-x))

/-- The convolution with its silu at one token and channel. -/
def conv (x : (⟨S4x8448x3072, .f32⟩ : BufTy).Contents (Elt Ideal)) (w : (⟨S5x3072, .f32⟩ : BufTy).Contents (Elt Ideal))
    (c : (⟨S3072, .f32⟩ : BufTy).Contents (Elt Ideal)) (b : Fin 4) (j s : ℕ) (n : Fin 3072) : EReal :=
  silu (taps (fun k => near x b j (s + (6 + k.val)) n) (fun k => w (ValueIdx.ix2 k n)) (c (ValueIdx.ix1 n)))

variable (x0 : (⟨S4x8448x3072, .f32⟩ : BufTy).Contents (Elt Ideal)) (x1 : (⟨S5x3072, .f32⟩ : BufTy).Contents (Elt Ideal))
  (x2 : (⟨S3072, .f32⟩ : BufTy).Contents (Elt Ideal))

/-- The context tokens with two zeros at each end. -/
theorem pad_ctx (b : Fin 4) (p : Fin 260) (n : Fin 3072) (q : ℕ) (hq : q = p.val + 6) :
    (val_main_v1 (F := Ideal) x0 (ValueIdx.ix3 b p n) : EReal) = near x0 b 0 q n := by
  subst hq
  unfold near
  by_cases h : 2 ≤ p.val ∧ p.val - 2 < 256
  · rw [dif_pos (by omega)]
    pointwise [val_main_v1]
    refine (dif_pos h).trans ?_
    pointwise [val_main_v0]
    exact congrArg x0 (funext fun a => Fin.ext (by fin_cases a <;> first | rfl | (show p.val - 2 = p.val + 6 - 8; omega)))
  · rw [dif_neg (by omega)]
    pointwise [val_main_v1]
    refine (dif_neg h).trans ?_
    pointwise [val_main_call0_v0, val_main_c]
    show (((0#32 : BitVec 32).toInt : ℝ) : EReal) = 0
    simp

/-- The latent tokens with two zeros at each end. -/
theorem pad_lat (b : Fin 4) (p : Fin 8196) (n : Fin 3072) (j q : ℕ) (hj : j ≠ 0) (hq : q = p.val + 262) :
    (val_main_v42 (F := Ideal) x0 (ValueIdx.ix3 b p n) : EReal) = near x0 b j q n := by
  subst hq
  unfold near
  by_cases h : 2 ≤ p.val ∧ p.val - 2 < 8192
  · rw [dif_pos (by omega)]
    pointwise [val_main_v42]
    refine (dif_pos h).trans ?_
    pointwise [val_main_v41]
    exact congrArg x0 (funext fun a => Fin.ext (by fin_cases a <;> first | rfl | (show 256 + (p.val - 2) = p.val + 262 - 8; omega)))
  · rw [dif_neg (by omega)]
    pointwise [val_main_v42]
    refine (dif_neg h).trans ?_
    pointwise [val_main_call1_v0, val_main_c_0]
    show (((0#32 : BitVec 32).toInt : ℝ) : EReal) = 0
    simp

/-- The sum for a context token. -/
theorem ctx_apply (b : Fin 4) (s : Fin 256) (n : Fin 3072) :
    (val_main_v40 (F := Ideal) x0 x1 x2 (ValueIdx.ix3 b s n) : EReal)
      = taps (fun k => near x0 b 0 (s.val + (6 + k.val)) n) (fun k => x1 (ValueIdx.ix2 k n)) (x2 (ValueIdx.ix1 n)) := by
  pointwise [val_main_v40, val_main_v39, val_main_v38, val_main_v37, val_main_v36, val_main_v35, val_main_v34,
    val_main_v33, val_main_v32, val_main_v31, val_main_v30, val_main_v29, val_main_v28, val_main_v27, val_main_v26,
    val_main_v25, val_main_v24, val_main_v23, val_main_v22, val_main_v21, val_main_v20, val_main_v19, val_main_v18,
    val_main_v17, val_main_v16, val_main_v15, val_main_v14, val_main_v13, val_main_v12, val_main_v11, val_main_v10,
    val_main_v9, val_main_v8, val_main_v7, val_main_v6, val_main_v5, val_main_v4, val_main_v3, val_main_v2, val_main_cst]
  refine congrArg (fun z : EReal => z + x2 (ValueIdx.ix1 n)) ?_
  have e (p : Fin 260) (k : Fin 5) (hp : p.val = k.val + s.val) : (val_main_v1 (F := Ideal) x0 (ValueIdx.ix3 b p n) : EReal)
      = near x0 b 0 (s.val + (6 + k.val)) n := pad_ctx x0 b p n _ (by omega)
  refine congrArg₂ (fun a b : EReal => a + b) (congrArg₂ (fun a b : EReal => a + b) (congrArg₂ (fun a b : EReal => a + b)
    (congrArg₂ (fun a b : EReal => a + b)
      (congrArg (fun z : EReal => z * x1 (ValueIdx.ix2 0 n)) (e _ 0 (Nat.zero_add _).symm))
      (congrArg (fun z : EReal => z * x1 (ValueIdx.ix2 1 n)) (e _ 1 rfl)))
      (congrArg (fun z : EReal => z * x1 (ValueIdx.ix2 2 n)) (e _ 2 rfl)))
      (congrArg (fun z : EReal => z * x1 (ValueIdx.ix2 3 n)) (e _ 3 rfl)))
      (congrArg (fun z : EReal => z * x1 (ValueIdx.ix2 4 n)) (e _ 4 rfl))

/-- The sum for a latent token. -/
theorem lat_apply (b : Fin 4) (s : Fin 8192) (n : Fin 3072) (j : ℕ) (hj : j ≠ 0) :
    (val_main_v81 (F := Ideal) x0 x1 x2 (ValueIdx.ix3 b s n) : EReal)
      = taps (fun k => near x0 b j (s.val + 256 + (6 + k.val)) n) (fun k => x1 (ValueIdx.ix2 k n)) (x2 (ValueIdx.ix1 n)) := by
  pointwise [val_main_v81, val_main_v80, val_main_v79, val_main_v78, val_main_v77, val_main_v76, val_main_v75,
    val_main_v74, val_main_v73, val_main_v72, val_main_v71, val_main_v70, val_main_v69, val_main_v68, val_main_v67,
    val_main_v66, val_main_v65, val_main_v64, val_main_v63, val_main_v62, val_main_v61, val_main_v60, val_main_v59,
    val_main_v58, val_main_v57, val_main_v56, val_main_v55, val_main_v54, val_main_v53, val_main_v52, val_main_v51,
    val_main_v50, val_main_v49, val_main_v48, val_main_v47, val_main_v46, val_main_v45, val_main_v44, val_main_v43,
    val_main_cst_1]
  refine congrArg (fun z : EReal => z + x2 (ValueIdx.ix1 n)) ?_
  have e (p : Fin 8196) (k : Fin 5) (hp : p.val = k.val + s.val) : (val_main_v42 (F := Ideal) x0 (ValueIdx.ix3 b p n) : EReal)
      = near x0 b j (s.val + 256 + (6 + k.val)) n := pad_lat x0 b p n j _ hj (by omega)
  refine congrArg₂ (fun a b : EReal => a + b) (congrArg₂ (fun a b : EReal => a + b) (congrArg₂ (fun a b : EReal => a + b)
    (congrArg₂ (fun a b : EReal => a + b)
      (congrArg (fun z : EReal => z * x1 (ValueIdx.ix2 0 n)) (e _ 0 (Nat.zero_add _).symm))
      (congrArg (fun z : EReal => z * x1 (ValueIdx.ix2 1 n)) (e _ 1 rfl)))
      (congrArg (fun z : EReal => z * x1 (ValueIdx.ix2 2 n)) (e _ 2 rfl)))
      (congrArg (fun z : EReal => z * x1 (ValueIdx.ix2 3 n)) (e _ 3 rfl)))
      (congrArg (fun z : EReal => z * x1 (ValueIdx.ix2 4 n)) (e _ 4 rfl))

/-- The reference at one token and channel. -/
theorem ref_apply (b : Fin 4) (s : Fin 8448) (n : Fin 3072) (j : ℕ) (hj : j = 0 ↔ s.val < 256) :
    (val_main_v84 (F := Ideal) x0 x1 x2 (ValueIdx.ix3 b s n) : EReal) = conv x0 x1 x2 b j s.val n := by
  have h2 : (val_main_v82 (F := Ideal) x0 x1 x2 (ValueIdx.ix3 b s n) : EReal)
      = taps (fun k => near x0 b j (s.val + (6 + k.val)) n) (fun k => x1 (ValueIdx.ix2 k n)) (x2 (ValueIdx.ix1 n)) := by
    pointwise [val_main_v82]
    by_cases h : s.val < 256
    · refine (dif_pos h).trans ?_
      rw [hj.mpr h]
      exact ctx_apply x0 x1 x2 b ⟨s.val, h⟩ n
    · refine (dif_neg h).trans ?_
      refine (lat_apply x0 x1 x2 b ⟨s.val - 256, by omega⟩ n j (fun h' => h (hj.mp h'))).trans ?_
      rw [show s.val - 256 + 256 = s.val by omega]
  unfold val_main_v84 val_main_v83 val_main_call2_v5 val_main_call2_v3 val_main_call2_v1 val_main_call2_v0
  generalize val_main_v82 (F := Ideal) x0 x1 x2 = y at h2 ⊢
  pointwise [val_main_call2_v4, val_main_call2_cst_0, val_main_call2_v2, val_main_call2_cst]
  exact congrArg silu h2

end Cert.Kernel9Ideal.Conv

end
-- ==== Proof.Conv.lean ====
module

public import proofs.«01_k».proof.Proof.Gen.Kernel9Ideal.Value
public import proofs.«01_k».proof.Proof.ConvRef
public import Idealize.ShloMosaic.Lib.Pipeline.ReadBack

/-! # The convolution over five tokens with its silu -/

@[expose] public section

set_option maxRecDepth 16384

noncomputable section

namespace Cert.Kernel9Ideal.Conv

open Cert.Kernel9Ideal Cert.Kernel9Ideal.Gen Idealize.ShloMosaic Idealize.ShloMosaic.TcCoe Idealize.SL.Sem
open Cert.Reference9Ideal.Read
open Idealize.ShloMosaic.Pipeline (Dat)
open scoped BigOperators

variable (m : (ℓ : Loc nD τ sig) → Buf (Elt Ideal) ℓ)

/-- The blocks each grid point works on. -/
theorem idx : ∀ t : Fin cfg0.N,
    win0_0.index t = ![t.val / 99, t.val % 99 / 3 * 32 - 1, t.val % 3]
    ∧ win0_1.index t = ![t.val / 99, t.val % 99 / 3, t.val % 3]
    ∧ win0_2.index t = ![t.val / 99, min (t.val % 99 / 3 * 32 + 32) 1055, t.val % 3]
    ∧ win0_3.index t = ![0, t.val % 3] ∧ win0_4.index t = ![0, t.val % 3]
    ∧ win0_5.index t = ![t.val / 99, t.val % 99 / 3, t.val % 3] :=
  (by decide +kernel : ∀ t : Fin grid0.N, _)

/-- Where a grid point takes zeros for the eight rows before its block, and for the eight rows after it. -/
theorem sel : ∀ t : Fin cfg0.N,
    Scalar.ori (Scalar.cmpi CmpIPredicate.eq (BitVec.ofNat 32 (grid0.coords t 1).val) 0#32)
        (Scalar.cmpi CmpIPredicate.eq (BitVec.ofNat 32 (grid0.coords t 1).val) 1#32)
      = (if t.val % 99 / 3 ≤ 1 then 1#1 else 0#1)
    ∧ Scalar.ori (Scalar.cmpi CmpIPredicate.eq (BitVec.ofNat 32 (grid0.coords t 1).val) 0#32)
        (Scalar.cmpi CmpIPredicate.eq (BitVec.ofNat 32 (grid0.coords t 1).val) 32#32)
      = (if t.val % 99 / 3 = 0 ∨ t.val % 99 / 3 = 32 then 1#1 else 0#1) :=
  (by decide +kernel : ∀ t : Fin grid0.N, _)

/-- The batch of a grid point. -/
abbrev bt (t : Fin cfg0.N) : Fin 4 := ⟨t.val / 99, by have h : t.val < 396 := t.isLt; omega⟩

/-- The token of a row of a grid point's block. -/
abbrev tok (t : Fin cfg0.N) (r : Fin 256) : Fin 8448 :=
  ⟨t.val % 99 / 3 * 256 + r.val, by have h : t.val < 396 := t.isLt; omega⟩

/-- The channel of a column of a grid point's block. -/
abbrev ch (t : Fin cfg0.N) (n : Fin 1024) : Fin 3072 := ⟨t.val % 3 * 1024 + n.val, by omega⟩

/-- The rows a grid point gathers: the eight before its block, the block, the eight after it. -/
def rows (x : (⟨S4x8448x3072, .f32⟩ : BufTy).Contents (Elt Ideal)) (t : Fin cfg0.N) : S272x1024.Idx → EReal :=
  fun y => near x (bt t) (t.val % 99 / 3) (t.val % 99 / 3 * 256 + (y 0).val) (ch t (y 1))

/-- The eight rows before the block. -/
theorem before_apply (c : Dev nD) (t : Fin cfg0.N) (u : Fin 8) (n : Fin 1024) :
    (k0_pay1 (F := Ideal) (grid0.coords t) (iblk m c 0 t) (ValueIdx.ix2 u n) : EReal)
      = near (m ((c : Thread nD τ).loc main_arg0)) (bt t) (t.val % 99 / 3) (t.val % 99 / 3 * 256 + u.val) (ch t n) := by
  pointwise [k0_pay1]
  rw [(sel t).1]
  have hu := u.isLt
  have ht : t.val < 396 := t.isLt
  unfold near
  by_cases h : t.val % 99 / 3 ≤ 1
  · rw [if_pos h, dif_neg (by omega)]
    rfl
  · rw [if_neg h, dif_pos (by omega)]
    show iblk m c 0 t (ValueIdx.ix3 0 u n) = _
    blk_point [iblk, V, idx t]
    show (t.val % 99 / 3 * 32 - 1) * 8 + u.val = t.val % 99 / 3 * 256 + u.val - 8
    omega

/-- The block. -/
theorem block_apply (c : Dev nD) (t : Fin cfg0.N) (u : Fin 256) (n : Fin 1024) :
    (k0_pay2 (F := Ideal) (iblk m c 1 t) (ValueIdx.ix2 u n) : EReal)
      = near (m ((c : Thread nD τ).loc main_arg0)) (bt t) (t.val % 99 / 3) (t.val % 99 / 3 * 256 + (8 + u.val)) (ch t n) := by
  pointwise [k0_pay2]
  have hu := u.isLt
  have ht : t.val < 396 := t.isLt
  unfold near
  rw [dif_pos (by omega)]
  show iblk m c 1 t (ValueIdx.ix3 0 u n) = _
  blk_point [iblk, V, idx t]
  show t.val % 99 / 3 * 256 + u.val = t.val % 99 / 3 * 256 + (8 + u.val) - 8
  omega

/-- The eight rows after the block. -/
theorem after_apply (c : Dev nD) (t : Fin cfg0.N) (u : Fin 8) (n : Fin 1024) :
    (k0_pay3 (F := Ideal) (grid0.coords t) (iblk m c 2 t) (ValueIdx.ix2 u n) : EReal)
      = near (m ((c : Thread nD τ).loc main_arg0)) (bt t) (t.val % 99 / 3) (t.val % 99 / 3 * 256 + (264 + u.val)) (ch t n) := by
  pointwise [k0_pay3]
  rw [(sel t).2]
  have hu := u.isLt
  have ht : t.val < 396 := t.isLt
  unfold near
  by_cases h : t.val % 99 / 3 = 0 ∨ t.val % 99 / 3 = 32
  · rw [if_pos h, dif_neg (by omega)]
    rfl
  · rw [if_neg h, dif_pos (by omega)]
    show iblk m c 2 t (ValueIdx.ix3 0 u n) = _
    blk_point [iblk, V, idx t]
    show min (t.val % 99 / 3 * 32 + 32) 1055 * 8 + u.val = t.val % 99 / 3 * 256 + (264 + u.val) - 8
    omega

/-- What is stored at one index. -/
theorem pay_apply (b w0 w1 w2 w3 w4 : Vec Ideal S1x1024 .f32) (e0 e1 e2 e3 e4 : Vec Ideal S256x1024 .f32) (r : Fin 256) (n : Fin 1024)
    (u w : Fin 5 → EReal) (d : EReal) (hb : b (ValueIdx.ix2 0 n) = d)
    (h0 : w0 (ValueIdx.ix2 0 n) = w 0) (h1 : w1 (ValueIdx.ix2 0 n) = w 1) (h2 : w2 (ValueIdx.ix2 0 n) = w 2)
    (h3 : w3 (ValueIdx.ix2 0 n) = w 3) (h4 : w4 (ValueIdx.ix2 0 n) = w 4)
    (g0 : e0 (ValueIdx.ix2 r n) = u 0) (g1 : e1 (ValueIdx.ix2 r n) = u 1) (g2 : e2 (ValueIdx.ix2 r n) = u 2)
    (g3 : e3 (ValueIdx.ix2 r n) = u 3) (g4 : e4 (ValueIdx.ix2 r n) = u 4) :
    (k0_pay5 (F := Ideal) (k0_pay4 b) w0 e0 w1 e1 w2 e2 w3 e3 w4 e4 (ValueIdx.ix3 0 r n) : EReal) = silu (taps u w d) := by
  have hs : (b (ValueIdx.ix2 0 n) + w0 (ValueIdx.ix2 0 n) * e0 (ValueIdx.ix2 r n) + w1 (ValueIdx.ix2 0 n) * e1 (ValueIdx.ix2 r n)
      + w2 (ValueIdx.ix2 0 n) * e2 (ValueIdx.ix2 r n) + w3 (ValueIdx.ix2 0 n) * e3 (ValueIdx.ix2 r n)
      + w4 (ValueIdx.ix2 0 n) * e4 (ValueIdx.ix2 r n) : EReal) = taps u w d := by
    rw [hb, h0, h1, h2, h3, h4, g0, g1, g2, g3, g4]
    unfold taps
    rw [mul_comm (w 0), mul_comm (w 1), mul_comm (w 2), mul_comm (w 3), mul_comm (w 4)]
    rw [add_assoc d, add_assoc d, add_assoc d, add_assoc d, add_comm d]
  pointwise [k0_pay5, k0_pay4]
  simp only [zero_sub]
  exact congrArg silu hs

/-- The three stores that gather the rows, the last one first. -/
def stores (c : Dev nD) (t : Fin cfg0.N) : List (View.Piece (Elt Ideal) S272x1024 .f32) :=
  [⟨Rect.unit ![264, 0] ![8, 1024] inb_S272x1024_S8x1024_264_0, k0_pay3 (F := Ideal) (grid0.coords t) (iblk m c 2 t)⟩,
    ⟨Rect.unit ![8, 0] ![256, 1024] inb_S272x1024_S256x1024_8_0, k0_pay2 (F := Ideal) (iblk m c 1 t)⟩,
    ⟨Rect.unit ![0, 0] ![8, 1024] inb_S272x1024_S8x1024_0_0, k0_pay1 (F := Ideal) (grid0.coords t) (iblk m c 0 t)⟩]

theorem near_congr (x : (⟨S4x8448x3072, .f32⟩ : BufTy).Contents (Elt Ideal)) (b : Fin 4) (j : ℕ) {q q' : ℕ} {n n' : Fin 3072}
    (hq : q = q') (hn : n.val = n'.val) : near x b j q n = near x b j q' n' := by
  obtain rfl := Fin.ext hn
  rw [hq]

/-- Each store is a block of the gathered rows. -/
theorem stores_rows (c : Dev nD) (t : Fin cfg0.N) :
    View.PiecesOf (rows (m ((c : Thread nD τ).loc main_arg0)) t) (stores m c t) := by
  unfold stores
  refine And.intro (fun x => ?_) (And.intro (fun x => ?_) (And.intro (fun x => ?_) trivial))
  · obtain ⟨u, n, rfl⟩ : ∃ (u : Fin 8) (n : Fin 1024), x = ValueIdx.ix2 u n :=
      ⟨x 0, x 1, funext fun a => by fin_cases a <;> rfl⟩
    refine (after_apply m c t u n).trans (near_congr _ _ _ ?_ ?_)
    · show _ = t.val % 99 / 3 * 256 + (264 + 1 * u.val)
      omega
    · show _ = t.val % 3 * 1024 + (0 + 1 * n.val)
      show t.val % 3 * 1024 + n.val = _
      omega
  · obtain ⟨u, n, rfl⟩ : ∃ (u : Fin 256) (n : Fin 1024), x = ValueIdx.ix2 u n :=
      ⟨x 0, x 1, funext fun a => by fin_cases a <;> rfl⟩
    refine (block_apply m c t u n).trans (near_congr _ _ _ ?_ ?_)
    · show _ = t.val % 99 / 3 * 256 + (8 + 1 * u.val)
      omega
    · show _ = t.val % 3 * 1024 + (0 + 1 * n.val)
      show t.val % 3 * 1024 + n.val = _
      omega
  · obtain ⟨u, n, rfl⟩ : ∃ (u : Fin 8) (n : Fin 1024), x = ValueIdx.ix2 u n :=
      ⟨x 0, x 1, funext fun a => by fin_cases a <;> rfl⟩
    refine (before_apply m c t u n).trans (near_congr _ _ _ ?_ ?_)
    · show _ = t.val % 99 / 3 * 256 + (0 + 1 * u.val)
      omega
    · show _ = t.val % 3 * 1024 + (0 + 1 * n.val)
      show t.val % 3 * 1024 + n.val = _
      omega

/-- Every row is stored. -/
theorem stores_cover (c : Dev nD) (t : Fin cfg0.N) (y : S272x1024.Idx) : ∃ p ∈ stores m c t, y ∈ p.1.set := by
  unfold stores
  have h0 : (y 0).val < 272 := (y 0).isLt
  have h1 : (y 1).val < 1024 := (y 1).isLt
  by_cases ha : (y 0).val < 8
  · refine ⟨_, List.mem_cons_of_mem _ (List.mem_cons_of_mem _ List.mem_cons_self), (Rect.mem_set_unit (inb := inb_S272x1024_S8x1024_0_0)).mpr fun a => ?_⟩
    fin_cases a
    · exact ⟨Nat.zero_le _, by show (y 0).val < 0 + 8; omega⟩
    · exact ⟨Nat.zero_le _, by show (y 1).val < 0 + 1024; omega⟩
  by_cases hb : (y 0).val < 264
  · refine ⟨_, List.mem_cons_of_mem _ List.mem_cons_self, (Rect.mem_set_unit (inb := inb_S272x1024_S256x1024_8_0)).mpr fun a => ?_⟩
    fin_cases a
    · exact ⟨by show 8 ≤ (y 0).val; omega, by show (y 0).val < 8 + 256; omega⟩
    · exact ⟨Nat.zero_le _, by show (y 1).val < 0 + 1024; omega⟩
  · refine ⟨_, List.mem_cons_self, (Rect.mem_set_unit (inb := inb_S272x1024_S8x1024_264_0)).mpr fun a => ?_⟩
    fin_cases a
    · exact ⟨by show 264 ≤ (y 0).val; omega, by show (y 0).val < 264 + 8; omega⟩
    · exact ⟨Nat.zero_le _, by show (y 1).val < 0 + 1024; omega⟩

/-- A load of 256 of the gathered rows, from row `o` on. -/
theorem load_apply (c : Dev nD) (t : Fin cfg0.N) (o : ℕ) (inb : ∀ a, (![o, 0] : Fin 2 → ℕ) a + (![256, 1024] : Fin 2 → ℕ) a ≤ S272x1024.size a)
    (r : Fin 256) (n : Fin 1024) :
    ((View.whole cc0_scratch0).readCov (Val := Elt Ideal) (stores m c t) (Rect.unit (s := S272x1024) ![o, 0] ![256, 1024] inb).toLoadRect
        (ValueIdx.ix2 r n) : EReal)
      = near (m ((c : Thread nD τ).loc main_arg0)) (bt t) (t.val % 99 / 3) (t.val % 99 / 3 * 256 + r.val + o) (ch t n) := by
  rw [View.readCov_eq_canon']
  have h := fun y => View.canon_append_of_piecesOf (rows (m ((c : Thread nD τ).loc main_arg0)) t) [] (stores m c t)
    (stores_rows m c t) y (stores_cover m c t y)
  rw [List.append_nil] at h
  refine (h _).trans (near_congr _ _ _ ?_ ?_)
  · show t.val % 99 / 3 * 256 + (o + 1 * r.val) = _
    omega
  · show t.val % 3 * 1024 + (0 + 1 * n.val) = t.val % 3 * 1024 + n.val
    omega

/-- The place of a stored element in the result. -/
theorem emb_apply (t : Fin cfg0.N) (r : Fin 256) (n : Fin 1024) :
    ((View.whole main_v1).slice (win0_5.rect t)).emb (ValueIdx.ix3 0 r n) = ValueIdx.ix3 (bt t) (tok t r) (ch t n) := by
  blk_ext [idx t]

/-- A row of weights that a grid point reads. -/
theorem w_apply (c : Dev nD) (t : Fin cfg0.N) (k : Fin 5) (inb : ∀ a, (![k.val, 0] : Fin 2 → ℕ) a + (![1, 1024] : Fin 2 → ℕ) a ≤ S5x1024.size a)
    (n : Fin 1024) :
    (View.ld (iblk m c 3 t) (Rect.unit (s := S5x1024) ![k.val, 0] ![1, 1024] inb) (ValueIdx.ix2 0 n) : EReal)
      = m ((c : Thread nD τ).loc main_arg1) (ValueIdx.ix2 k (ch t n)) := by
  blk_point [iblk, V, idx t]

/-- The bias that a grid point reads. -/
theorem b_apply (c : Dev nD) (t : Fin cfg0.N) (n : Fin 1024) :
    (iblk m c 4 t (ValueIdx.ix2 0 n) : EReal) = m ((c : Thread nD τ).loc main_arg2) (ValueIdx.ix1 (ch t n)) := by
  blk_point [iblk, V, idx t]

/-- The result array after the run is the reference's. -/
theorem final (c : Dev nD) :
    (dats m 0 c).arrAt 5 cfg0.N
      = val_main_v84 (F := Ideal) (m ((c : Thread nD τ).loc main_arg0)) (m ((c : Thread nD τ).loc main_arg1))
          (m ((c : Thread nD τ).loc main_arg2)) := by
  refine (dats m 0 c).arrAt_eq_of_covers 5 _ (by decide +kernel) fun t _ y => ?_
  blk_simp
  rw [after0_5]
  unfold outsAt0
  frame_out
  obtain ⟨r, n, rfl⟩ : ∃ (r : Fin 256) (n : Fin 1024), y = ValueIdx.ix3 0 r n := ⟨y 1, y 2, by blk_ext⟩
  have hj : t.val % 99 / 3 = 0 ↔ (tok t r).val < 256 := by
    have hr := r.isLt
    show _ ↔ t.val % 99 / 3 * 256 + r.val < 256
    omega
  have hl (k : Fin 5) (inb) := load_apply m c t (6 + k.val) inb r n
  refine Eq.trans ?_ ((congrArg (val_main_v84 (F := Ideal) _ _ _) (emb_apply t r n)).trans
    (ref_apply _ _ _ _ (tok t r) _ (t.val % 99 / 3) hj)).symm
  exact pay_apply _ _ _ _ _ _ _ _ _ _ _ r n _ _ _ (b_apply m c t n)
    (w_apply m c t 0 _ n) (w_apply m c t 1 _ n) (w_apply m c t 2 _ n) (w_apply m c t 3 _ n) (w_apply m c t 4 _ n)
    (hl 0 _) (hl 1 _) (hl 2 _) (hl 3 _) (hl 4 _)

end Cert.Kernel9Ideal.Conv

end
-- ==== Proof.Claims9.lean ====
module

public import proofs.«01_k».proof.Defs
public import proofs.«01_k».proof.Proof.Conv
public import proofs.«01_k».proof.Proof.Gen.Kernel9.Frame
public import proofs.«01_k».proof.Proof.Gen.Reference9Ideal.Run

/-! # The claims about the convolution and its silu -/

@[expose] public section

set_option maxRecDepth 16384

noncomputable section

namespace Cert.Proof

open Idealize.ShloMosaic Idealize.SL.Sem

/-- The reference keeps its arguments and, being without semaphores, ends with every counter at zero. -/
theorem reference9_frame (m : (ℓ : Loc Cert.Reference9Ideal.nD Cert.Reference9Ideal.τ Cert.Reference9Ideal.sig) → Buf (Elt Ideal) ℓ)
    (g : Dev Cert.Reference9Ideal.nD → PrngReg) :
    θ_run (Cert.Reference9Ideal.defs (F := Ideal)) (onTc (τ := Cert.Reference9Ideal.τ) (Cert.Reference9Ideal.main (F := Ideal)))
      ⟨m, fun _ => 0, g⟩ (fun r => (∀ c : Dev Cert.Reference9Ideal.nD,
        r.2.mem ((c.tc : Thread _ _).loc Cert.Reference9Ideal.main_arg0) = m ((c.tc : Thread _ _).loc Cert.Reference9Ideal.main_arg0)
        ∧ r.2.mem ((c.tc : Thread _ _).loc Cert.Reference9Ideal.main_arg1) = m ((c.tc : Thread _ _).loc Cert.Reference9Ideal.main_arg1)
        ∧ r.2.mem ((c.tc : Thread _ _).loc Cert.Reference9Ideal.main_arg2) = m ((c.tc : Thread _ _).loc Cert.Reference9Ideal.main_arg2))
        ∧ r.2.sem = fun _ => 0) :=
  (θ_run _ _ _).mono (fun r h => ⟨fun c => (h c).2, sem_eq_zero_of_no_sems (by decide) _⟩)
    (Cert.Reference9Ideal.Value.run (F := Ideal) m g)

/-- From equal arguments the kernel and the reference leave the same result. -/
theorem algebraic9 : Cert.algebraic_Kernel9Ideal_Reference9Ideal
    (hKernel9Ideal := Cert.Kernel9Ideal.Gen.facts) (hReference9Ideal := Cert.Reference9Ideal.Gen.facts) := by
  intro m g m' g' hpre hargs
  refine ⟨fun c => (Cert.Kernel9Ideal.Gen.dats m 0 c).arrAt 5 Cert.Kernel9Ideal.cfg0.N,
    Cert.Kernel9Ideal.Value.run_blocks (F := Ideal) m g, ?_⟩
  refine (θ_run (Cert.Reference9Ideal.defs (F := Ideal)) _ _).mono (fun r h c => ?_) (Cert.Reference9Ideal.Value.run (F := Ideal) m' g')
  obtain ⟨hv, h0, h1, h2⟩ := h c
  refine ⟨(hv.trans (Cert.Reference9Ideal.Read.val_main_v84_eq _ _)).trans ?_, h0, h1, h2⟩
  rw [(hargs c).1, (hargs c).2.1, (hargs c).2.2]
  exact (Cert.Kernel9Ideal.Conv.final m c).symm

end Cert.Proof

end
-- ==== Proof.ModCond.lean ====
module

public import proofs.«01_k».proof.Proof.Gen.Kernel10Ideal.Value
public import proofs.«01_k».proof.Proof.Gen.Reference10Ideal.Read
public import Idealize.ShloMosaic.Lib.Pipeline.ValueKit
public import Idealize.ShloMosaic.Lib.Pointwise
public import Idealize.ShloMosaic.Lib.StableHlo.ReadAt
public import Idealize.ShloMosaic.Lib.Routing.OpsSet

/-! # The rows of conditions that the modulation is made of -/

@[expose] public section

set_option maxRecDepth 16384

noncomputable section

namespace Cert.Kernel10Ideal.Modulation

open Cert.Kernel10Ideal Cert.Kernel10Ideal.Gen Idealize.ShloMosaic Idealize.ShloMosaic.TcCoe Idealize.SL.Sem
open scoped BigOperators

variable (m : (ℓ : Loc nD τ sig) → Buf (Elt Ideal) ℓ)

/-- The conditions of the four images, that of the context, and three rows of zeros. -/
def cond (x0 : FVec Ideal S4x1024 .f32) (x1 : FVec Ideal S1024 .f32) (r : Fin 8) (k : Fin 1024) : EReal :=
  if h : r.val < 4 then x0 (ValueIdx.ix2 ⟨r.val, h⟩ k) else if r.val = 4 then x1 (ValueIdx.ix1 k) else 0

/-- Where an update of the placing of four rows into eight lands: at the same row and column. -/
theorem lands4 (i : IVec S1 32) (hi : ∀ j, i j = 0#32) (a : Fin 4) (b : Fin 1024) (r : Fin 8) (n : Fin 1024) :
    scatter_S8x1024_S1_S4x1024_01_n_0_0.resultIdx? (ValueIdx.ix2 a b) i = some (ValueIdx.ix2 r n)
      ↔ a.val = r.val ∧ b.val = n.val := by
  have s0 : scatter_S8x1024_S1_S4x1024_01_n_0_0.start (ValueIdx.ix2 a b) i 0 = 0 := by
    unfold ScatterDims.start
    rw [dif_pos (show (0 : Fin 2) ∈ scatter_S8x1024_S1_S4x1024_01_n_0_0.scatterDimsToOperandDims from
      List.mem_singleton.2 rfl), hi]
    rfl
  have s1 : scatter_S8x1024_S1_S4x1024_01_n_0_0.start (ValueIdx.ix2 a b) i 1 = 0 := rfl
  have w0 : scatter_S8x1024_S1_S4x1024_01_n_0_0.window (ValueIdx.ix2 a b) 0 = a.val := rfl
  have w1 : scatter_S8x1024_S1_S4x1024_01_n_0_0.window (ValueIdx.ix2 a b) 1 = b.val := rfl
  refine (Routing.resultIdx?_ix2 _ _ _ r n).trans ?_
  rw [s0, s1, w0, w1]
  omega

/-- Where an update of the placing of one row into eight lands: in the row of the index word, at the same column. -/
theorem lands1 (i : IVec S1 32) (hi : ∀ j, i j = 4#32) (b : Fin 1024) (r : Fin 8) (n : Fin 1024) :
    scatter_S8x1024_S1_S1024_0_0_0_0.resultIdx? (ValueIdx.ix1 b) i = some (ValueIdx.ix2 r n)
      ↔ 4 = r.val ∧ b.val = n.val := by
  have s0 : scatter_S8x1024_S1_S1024_0_0_0_0.start (ValueIdx.ix1 b) i 0 = 4 := by
    unfold ScatterDims.start
    rw [dif_pos (show (0 : Fin 2) ∈ scatter_S8x1024_S1_S1024_0_0_0_0.scatterDimsToOperandDims from
      List.mem_singleton.2 rfl), hi]
    rfl
  have s1 : scatter_S8x1024_S1_S1024_0_0_0_0.start (ValueIdx.ix1 b) i 1 = 0 := rfl
  have w0 : scatter_S8x1024_S1_S1024_0_0_0_0.window (ValueIdx.ix1 b) 0 = 0 := rfl
  have w1 : scatter_S8x1024_S1_S1024_0_0_0_0.window (ValueIdx.ix1 b) 1 = b.val := rfl
  refine (Routing.resultIdx?_ix2 _ _ _ r n).trans ?_
  rw [s0, s1, w0, w1]
  omega

/-- The four rows placed: the updates in the first four rows, the operand after them. -/
theorem placed4 (x : FVec Ideal S8x1024 .f32) (i : IVec S1 32) (hi : ∀ j, i j = 0#32) (u : FVec Ideal S4x1024 .f32)
    (r : Fin 8) (n : Fin 1024) :
    Host.scatter scatter_S8x1024_S1_S4x1024_01_n_0_0 (fun _ b => b) x i u (ValueIdx.ix2 r n)
      = if h : r.val < 4 then u (ValueIdx.ix2 ⟨r.val, h⟩ n) else x (ValueIdx.ix2 r n) := by
  have key : ∀ k : S4x1024.Idx, scatter_S8x1024_S1_S4x1024_01_n_0_0.resultIdx? k i = some (ValueIdx.ix2 r n) →
      (k 0).val = r.val ∧ (k 1).val = n.val := fun k hk => by
    rw [ValueIdx.eq_ix2 k] at hk
    exact (lands4 i hi _ _ r n).1 hk
  by_cases h : r.val < 4
  · rw [dif_pos h]
    refine Routing.scatter_set_hit _ x i u _ _ (fun k hk => ?_) (ValueIdx.ix2 ⟨r.val, h⟩ n)
      ((lands4 i hi ⟨r.val, h⟩ n r n).2 ⟨rfl, rfl⟩)
    obtain ⟨h0, h1⟩ := key k hk
    exact congrArg u ((ValueIdx.eq_ix2 k).trans (congrArg₂ ValueIdx.ix2 (Fin.ext h0) (Fin.ext h1)))
  · rw [dif_neg h]
    refine Routing.scatter_set_miss _ x i u _ fun k hk => h ?_
    have h1 := (key k hk).1
    have h2 : (k 0).val < 4 := (k 0).isLt
    omega

/-- The one row placed: the update in the fifth row, the operand elsewhere. -/
theorem placed1 (x : FVec Ideal S8x1024 .f32) (i : IVec S1 32) (hi : ∀ j, i j = 4#32) (u : FVec Ideal S1024 .f32)
    (r : Fin 8) (n : Fin 1024) :
    Host.scatter scatter_S8x1024_S1_S1024_0_0_0_0 (fun _ b => b) x i u (ValueIdx.ix2 r n)
      = if r.val = 4 then u (ValueIdx.ix1 n) else x (ValueIdx.ix2 r n) := by
  have key : ∀ k : S1024.Idx, scatter_S8x1024_S1_S1024_0_0_0_0.resultIdx? k i = some (ValueIdx.ix2 r n) →
      4 = r.val ∧ (k 0).val = n.val := fun k hk => by
    rw [ValueIdx.eq_ix1 k] at hk
    exact (lands1 i hi _ r n).1 hk
  by_cases h : r.val = 4
  · rw [if_pos h]
    refine Routing.scatter_set_hit _ x i u _ _ (fun k hk => ?_) (ValueIdx.ix1 n) ((lands1 i hi n r n).2 ⟨h.symm, rfl⟩)
    exact congrArg u ((ValueIdx.eq_ix1 k).trans (congrArg ValueIdx.ix1 (Fin.ext (key k hk).2)))
  · rw [if_neg h]
    exact Routing.scatter_set_miss _ x i u _ fun k hk => h (key k hk).1.symm

/-- The kernel's rows of conditions. -/
theorem cond_apply (c : Dev nD) (r : Fin 8) (k : Fin 1024) :
    (V m c main_v4 (ValueIdx.ix2 r k) : EReal)
      = cond (m ((c : Thread nD τ).loc main_arg0)) (m ((c : Thread nD τ).loc main_arg1)) r k := by
  generalize hC : cond (m ((c : Thread nD τ).loc main_arg0)) (m ((c : Thread nD τ).loc main_arg1)) r k = C
  unfold V
  after_reads_at
  refine (placed1 _ _ (fun j => rfl) _ r k).trans ?_
  by_cases h4 : r.val = 4
  · rw [if_pos h4, ← hC]
    unfold cond
    rw [dif_neg (by omega), if_pos h4]
  rw [if_neg h4]
  refine (placed4 _ _ (fun j => rfl) _ r k).trans ?_
  subst hC
  unfold cond
  by_cases h : r.val < 4
  · rw [dif_pos h, dif_pos h]
  · rw [dif_neg h, dif_neg h, if_neg h4]
    pointwise []

/-- The reference's rows of conditions. -/
theorem ref_cond (x0 : (⟨S4x1024, .f32⟩ : BufTy).Contents (Elt Ideal)) (x1 : (⟨S1024, .f32⟩ : BufTy).Contents (Elt Ideal))
    (r : Fin 8) (k : Fin 1024) :
    (Cert.Reference10Ideal.Read.val_main_v2 (F := Ideal) x0 x1 (ValueIdx.ix2 r k) : EReal) = cond x0 x1 r k := by
  unfold cond
  pointwise [Cert.Reference10Ideal.Read.val_main_v2]
  show (if h : r.val < 4 then x0 (ValueIdx.ix2 ⟨r.val, h⟩ k) else if h : r.val - 4 < 1 then
      Cert.Reference10Ideal.Read.val_main_v0 (F := Ideal) x1 (ValueIdx.ix2 ⟨r.val - 4, h⟩ k)
      else Cert.Reference10Ideal.Read.val_main_v1 (F := Ideal) (ValueIdx.ix2 ⟨r.val - 4 - 1, by omega⟩ k)) = _
  by_cases h : r.val < 4
  · rw [dif_pos h, dif_pos h]
  rw [dif_neg h, dif_neg h]
  by_cases h4 : r.val = 4
  · rw [dif_pos (by omega), if_pos h4]
    pointwise [Cert.Reference10Ideal.Read.val_main_v0]
    rfl
  · rw [dif_neg (by omega), if_neg h4]
    pointwise [Cert.Reference10Ideal.Read.val_main_v1, Cert.Reference10Ideal.Read.val_main_cst]

end Cert.Kernel10Ideal.Modulation

end
-- ==== Proof.Modulation.lean ====
module

public import proofs.«01_k».proof.Proof.ModCond

/-! # The modulation of both layers -/

@[expose] public section

set_option maxRecDepth 16384

noncomputable section

namespace Cert.Kernel10Ideal.Modulation

open Cert.Kernel10Ideal Cert.Kernel10Ideal.Gen Idealize.ShloMosaic Idealize.ShloMosaic.TcCoe Idealize.SL.Sem
open Cert.Reference10Ideal.Read
open Idealize.ShloMosaic.Pipeline (Dat)
open scoped BigOperators

variable (m : (ℓ : Loc nD τ sig) → Buf (Elt Ideal) ℓ)

/-- One condition after its silu. -/
def silu (x : EReal) : EReal := x * Ideal.div 1 (1 + Ideal.exp (-x))

/-- The blocks each grid point works on: a layer and a range of 1024 columns. -/
theorem idx : ∀ t : Fin cfg0.N,
    win0_0.index t = ![0, 0] ∧ win0_1.index t = ![t.val / 6, 0, t.val % 6]
    ∧ win0_2.index t = ![t.val / 6, 0, t.val % 6] ∧ win0_3.index t = ![t.val / 6, 0, t.val % 6] :=
  (by decide +kernel : ∀ t : Fin grid0.N, _)

/-- The layer of a grid point. -/
abbrev ly (t : Fin cfg0.N) : Fin 2 := ⟨t.val / 6, by have h : t.val < 12 := t.isLt; omega⟩

/-- The column of a grid point's block. -/
abbrev col (t : Fin cfg0.N) (n : Fin 1024) : Fin 6144 := ⟨t.val % 6 * 1024 + n.val, by omega⟩

/-- What is stored at one index. -/
theorem pay_apply (x : Vec Ideal S8x1024 .f32) (w : Vec Ideal S1x1024x1024 .f32) (b : Vec Ideal S1x1x1024 .f32)
    (r : Fin 8) (n : Fin 1024) :
    k0_pay1 (F := Ideal) x w b (ValueIdx.ix3 0 r n)
      = (∑ k : Fin 1024, silu (x (ValueIdx.ix2 r k)) * w (ValueIdx.ix3 0 k n)) + b (ValueIdx.ix3 0 0 n) := by
  pointwise [k0_pay1]
  simp only [zero_sub]
  rfl

/-- The reference's silu. -/
theorem ref_silu (x0 : (⟨S4x1024, .f32⟩ : BufTy).Contents (Elt Ideal)) (x1 : (⟨S1024, .f32⟩ : BufTy).Contents (Elt Ideal))
    (r : Fin 8) (k : Fin 1024) :
    (val_main_v3 (F := Ideal) x0 x1 (ValueIdx.ix2 r k) : EReal) = silu (cond x0 x1 r k) := by
  rw [← ref_cond]
  unfold val_main_v3 val_main_call0_v5 val_main_call0_v3 val_main_call0_v1 val_main_call0_v0
  generalize val_main_v2 (F := Ideal) x0 x1 = Y
  pointwise [val_main_call0_v4, val_main_call0_v2, val_main_call0_cst, val_main_call0_cst_0]
  rfl

/-- The reference at one layer, row and column. -/
theorem ref_apply (x0 : (⟨S4x1024, .f32⟩ : BufTy).Contents (Elt Ideal)) (x1 : (⟨S1024, .f32⟩ : BufTy).Contents (Elt Ideal))
    (x2 : (⟨S2x1024x6144, .f32⟩ : BufTy).Contents (Elt Ideal)) (x3 : (⟨S2x6144, .f32⟩ : BufTy).Contents (Elt Ideal))
    (i : Fin 2) (r : Fin 8) (n : Fin 6144) :
    val_main_v22 (F := Ideal) x0 x1 x2 x3 (ValueIdx.ix3 i r n)
      = (∑ k : Fin 1024, silu (cond x0 x1 r k) * x2 (ValueIdx.ix3 i k n)) + x3 (ValueIdx.ix2 i n) := by
  have hs := fun k => ref_silu x0 x1 r k
  unfold val_main_v22 val_main_v20 val_main_v21 val_main_v19 val_main_v11 val_main_v6 val_main_v14
  generalize val_main_v3 (F := Ideal) x0 x1 = Y at hs ⊢
  pointwise [val_main_v18, val_main_v17, val_main_v16, val_main_v15, val_main_v13, val_main_v12, val_main_v10, val_main_v9,
    val_main_v8, val_main_v7, val_main_v5, val_main_v4]
  fin_cases i
  · refine (dif_pos Nat.zero_lt_one).trans ?_
    simp only [← hs]
    rfl
  · refine (dif_neg (Nat.lt_irrefl 1)).trans ?_
    simp only [← hs]
    rfl

/-- The place of a stored element in the result. -/
theorem emb_apply (t : Fin cfg0.N) (r : Fin 8) (n : Fin 1024) :
    ((View.whole main_v6).slice (win0_3.rect t)).emb (ValueIdx.ix3 0 r n) = ValueIdx.ix3 (ly t) r (col t n) := by
  blk_ext [idx t]

/-- The rows of conditions stay for every grid point. -/
theorem c_blk (c : Dev nD) (t : Fin cfg0.N) (r : Fin 8) (k : Fin 1024) :
    (iblk m c 0 t (ValueIdx.ix2 r k) : EReal)
      = cond (m ((c : Thread nD τ).loc main_arg0)) (m ((c : Thread nD τ).loc main_arg1)) r k := by
  refine Eq.trans ?_ (cond_apply m c r k)
  unfold iblk
  blk_simp
  exact congrArg (V m c main_v4) (by blk_ext [idx t])

/-- The result array after the run is the reference's. -/
theorem final (c : Dev nD) :
    (dats m 0 c).arrAt 3 cfg0.N
      = val_main_v22 (F := Ideal) (m ((c : Thread nD τ).loc main_arg0)) (m ((c : Thread nD τ).loc main_arg1))
          (m ((c : Thread nD τ).loc main_arg2)) (m ((c : Thread nD τ).loc main_arg3)) := by
  refine (dats m 0 c).arrAt_eq_of_covers 3 _ (by decide +kernel) fun t _ y => ?_
  blk_simp
  rw [after0_3]
  frame_out
  obtain ⟨r, n, rfl⟩ : ∃ (r : Fin 8) (n : Fin 1024), y = ValueIdx.ix3 0 r n := ⟨y 1, y 2, by blk_ext⟩
  refine (pay_apply _ _ _ r n).trans (Eq.trans ?_ ((congrArg (val_main_v22 (F := Ideal) _ _ _ _)
    (emb_apply t r n)).trans (ref_apply _ _ _ _ _ r _)).symm)
  refine congrArg₂ (fun a b : EReal => a + b) (Finset.sum_congr rfl fun k _ => congrArg₂ (fun a b : EReal => a * b)
    (congrArg silu (c_blk m c t r k)) ?_) ?_
  · blk_point [iblk, V, idx t]
  · blk_point [iblk, V, idx t]

end Cert.Kernel10Ideal.Modulation

end
-- ==== Proof.Claims10.lean ====
module

public import proofs.«01_k».proof.Defs
public import proofs.«01_k».proof.Proof.Modulation
public import proofs.«01_k».proof.Proof.Gen.Kernel10.Frame
public import proofs.«01_k».proof.Proof.Gen.Reference10Ideal.Run

/-! # The claims about the modulation -/

@[expose] public section

set_option maxRecDepth 16384

noncomputable section

namespace Cert.Proof

open Idealize.ShloMosaic Idealize.SL.Sem

/-- The reference keeps its arguments and, being without semaphores, ends with every counter at zero. -/
theorem reference10_frame (m : (ℓ : Loc Cert.Reference10Ideal.nD Cert.Reference10Ideal.τ Cert.Reference10Ideal.sig) → Buf (Elt Ideal) ℓ)
    (g : Dev Cert.Reference10Ideal.nD → PrngReg) :
    θ_run (Cert.Reference10Ideal.defs (F := Ideal)) (onTc (τ := Cert.Reference10Ideal.τ) (Cert.Reference10Ideal.main (F := Ideal)))
      ⟨m, fun _ => 0, g⟩ (fun r => (∀ c : Dev Cert.Reference10Ideal.nD,
        r.2.mem ((c.tc : Thread _ _).loc Cert.Reference10Ideal.main_arg0) = m ((c.tc : Thread _ _).loc Cert.Reference10Ideal.main_arg0)
        ∧ r.2.mem ((c.tc : Thread _ _).loc Cert.Reference10Ideal.main_arg1) = m ((c.tc : Thread _ _).loc Cert.Reference10Ideal.main_arg1)
        ∧ r.2.mem ((c.tc : Thread _ _).loc Cert.Reference10Ideal.main_arg2) = m ((c.tc : Thread _ _).loc Cert.Reference10Ideal.main_arg2)
        ∧ r.2.mem ((c.tc : Thread _ _).loc Cert.Reference10Ideal.main_arg3) = m ((c.tc : Thread _ _).loc Cert.Reference10Ideal.main_arg3))
        ∧ r.2.sem = fun _ => 0) :=
  (θ_run _ _ _).mono (fun r h => ⟨fun c => (h c).2, sem_eq_zero_of_no_sems (by decide) _⟩)
    (Cert.Reference10Ideal.Value.run (F := Ideal) m g)

/-- From equal arguments the kernel and the reference leave the same result. -/
theorem algebraic10 : Cert.algebraic_Kernel10Ideal_Reference10Ideal
    (hKernel10Ideal := Cert.Kernel10Ideal.Gen.facts) (hReference10Ideal := Cert.Reference10Ideal.Gen.facts) := by
  intro m g m' g' hpre hargs
  refine ⟨fun c => (Cert.Kernel10Ideal.Gen.dats m 0 c).arrAt 3 Cert.Kernel10Ideal.cfg0.N,
    Cert.Kernel10Ideal.Value.run_blocks (F := Ideal) m g, ?_⟩
  refine (θ_run (Cert.Reference10Ideal.defs (F := Ideal)) _ _).mono (fun r h c => ?_) (Cert.Reference10Ideal.Value.run (F := Ideal) m' g')
  obtain ⟨hv, h0, h1, h2, h3⟩ := h c
  refine ⟨(hv.trans (Cert.Reference10Ideal.Read.val_main_v22_eq _ _ _ _)).trans ?_, h0, h1, h2, h3⟩
  rw [(hargs c).1, (hargs c).2.1, (hargs c).2.2.1, (hargs c).2.2.2]
  exact (Cert.Kernel10Ideal.Modulation.final m c).symm

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel10Ideal.Value
public import proofs.«01_k».proof.Proof.Gen.Reference10Ideal.Run
public import proofs.«01_k».proof.Proof.Gen.Reference10Ideal.Read
public import proofs.«01_k».proof.Proof.Flash
public import proofs.«01_k».proof.Proof.Claims2
public import proofs.«01_k».proof.Proof.Claims3
public import proofs.«01_k».proof.Proof.Claims4
public import proofs.«01_k».proof.Proof.Claims5
public import proofs.«01_k».proof.Proof.Claims6
public import proofs.«01_k».proof.Proof.Claims7
public import proofs.«01_k».proof.Proof.Claims8
public import proofs.«01_k».proof.Proof.Claims9
public import proofs.«01_k».proof.Proof.Claims10
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Pre_finite_scores.facts, Cert.Pre_finite_rows.facts,
    fun m g _ => Cert.Kernel.Gen.frame m g, fun m g _ => Cert.KernelIdeal.Gen.frame m g,
    fun m g _ => Cert.KernelIdeal.Gen.frame m g, fun m g _ => reference_frame m g, fun m g _ => reference_frame m g,
    fun m g _ => Cert.Kernel2.Gen.frame m g, fun m g _ => Cert.Kernel2Ideal.Gen.frame m g, fun m g _ => reference2_frame m g,
    fun m g _ => Cert.Kernel3.Gen.frame m g, fun m g _ => Cert.Kernel3Ideal.Gen.frame m g, fun m g _ => reference3_frame m g,
    fun m g _ => Cert.Kernel4.Gen.frame m g, fun m g _ => Cert.Kernel4Ideal.Gen.frame m g, fun m g _ => reference4_frame m g,
    fun m g _ => Cert.Kernel5.Gen.frame m g, fun m g _ => Cert.Kernel5Ideal.Gen.frame m g, fun m g _ => reference5_frame m g,
    fun m g _ => Cert.Kernel6.Gen.frame m g, fun m g _ => Cert.Kernel6Ideal.Gen.frame m g,
    fun m g _ => Cert.Kernel6Ideal.Gen.frame m g, fun m g _ => reference6_frame m g, fun m g _ => reference6_frame m g,
    fun m g _ => Cert.Kernel7.Gen.frame m g, fun m g _ => Cert.Kernel7Ideal.Gen.frame m g, fun m g _ => reference7_frame m g,
    fun m g _ => Cert.Kernel8.Gen.frame m g, fun m g _ => Cert.Kernel8Ideal.Gen.frame m g, fun m g _ => reference8_frame m g,
    fun m g _ => Cert.Kernel9.Gen.frame m g, fun m g _ => Cert.Kernel9Ideal.Gen.frame m g, fun m g _ => reference9_frame m g,
    fun m g _ => Cert.Kernel10.Gen.frame m g, fun m g _ => Cert.Kernel10Ideal.Gen.frame m g, fun m g _ => reference10_frame m g,
    trivial, algebraic,
    trivial, algebraic2,
    trivial, algebraic3,
    trivial, algebraic4,
    trivial, algebraic5,
    trivial, algebraic6,
    trivial, algebraic7,
    trivial, algebraic8,
    trivial, algebraic9,
    trivial, algebraic10⟩

end Cert.Proof

end
